-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 1024]⟩ ⟨2, ![1024, 1024]⟩ (Layout.meshBlock [2, 2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![1024, 512]⟩ ⟨2, ![1024, 1024]⟩ (Layout.meshBlock [2, 2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x1024 : Shape := ⟨2, ![512, 1024]⟩
abbrev S1024x512 : Shape := ⟨2, ![1024, 512]⟩
abbrev S256x512 : Shape := ⟨2, ![256, 512]⟩
abbrev S512x512 : Shape := ⟨2, ![512, 512]⟩
abbrev S8 : Shape := ⟨1, ![8]⟩
abbrev S_ : Shape := ⟨0, ![]⟩
abbrev S1 : Shape := ⟨1, ![1]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .local _ .vmem, ⟨0, _⟩ => ⟨S1024x512, .bf16⟩
  | .local _ .vmem, ⟨1, _⟩ => ⟨S256x512, .f32⟩
  | .local _ .vmem, ⟨2, _⟩ => ⟨S512x512, .f32⟩
  | .local _ .vmem, ⟨3, _⟩ => ⟨S256x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v12 : BitVec 32 := Scalar.muli v9 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_14 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v24 : BitVec 32 := Scalar.muli v8 c256_i32
  let v25 : BitVec 32 := Scalar.addi v24 c0_i32_14
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32 : BitVec 32 := 512#32
  let v26 : BitVec 32 := Scalar.muli v9 c512_i32
  ![v25.toNat, v26.toNat]
def k0_off2 (d0 : Dev nD) : Fin 2 → Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_49 : BitVec 32 := 512#32
  let v80 : BitVec 32 := Scalar.muli v2 c512_i32_49
  ![0, v80.toNat]
def k0_off3 (d0 : Dev nD) (c0_i32_60 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_58 : BitVec 32 := 512#32
  let v91 : BitVec 32 := Scalar.muli v2 c512_i32_58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_59 : BitVec 32 := 256#32
  let v92 : BitVec 32 := Scalar.muli v8 c256_i32_59
  let v93 : BitVec 32 := Scalar.addi v91 v92
  let v94 : BitVec 32 := Scalar.addi v93 c0_i32_60
  let c0_i32_67 : BitVec 32 := 0#32
  ![v94.toNat, 0]
def k0_dev3 (d0 : Dev nD) : Nat :=
  let c0_i32_64 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_63 : BitVec 32 := 4#32
  let v95 : BitVec 32 := Scalar.muli v9 c4_i32_63
  let v96 : BitVec 32 := Scalar.addi c0_i32_64 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v97 : BitVec 32 := Scalar.muli v5 c2_i32_65
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v99 : BitVec 32 := Scalar.muli v8 c1_i32_66
  let v100 : BitVec 32 := Scalar.addi v98 v99
  v100.toNat
def k0_dev4 (d0 : Dev nD) : Nat :=
  let c0_i32_82 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_81 : BitVec 32 := 4#32
  let v120 : BitVec 32 := Scalar.muli v9 c4_i32_81
  let v121 : BitVec 32 := Scalar.addi c0_i32_82 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v122 : BitVec 32 := Scalar.muli v5 c2_i32_83
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v124 : BitVec 32 := Scalar.muli v8 c1_i32_84
  let v125 : BitVec 32 := Scalar.addi v123 v124
  v125.toNat
def k0_dev5 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v145 : BitVec 32 := Scalar.muli v9 c4_i32_99
  let v146 : BitVec 32 := Scalar.addi c0_i32_100 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v147 : BitVec 32 := Scalar.muli v5 c2_i32_101
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v149 : BitVec 32 := Scalar.muli v8 c1_i32_102
  let v150 : BitVec 32 := Scalar.addi v148 v149
  v150.toNat
def k0_dev6 (d0 : Dev nD) : Nat :=
  let c0_i32_118 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_117 : BitVec 32 := 4#32
  let v170 : BitVec 32 := Scalar.muli v9 c4_i32_117
  let v171 : BitVec 32 := Scalar.addi c0_i32_118 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v172 : BitVec 32 := Scalar.muli v5 c2_i32_119
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v174 : BitVec 32 := Scalar.muli v8 c1_i32_120
  let v175 : BitVec 32 := Scalar.addi v173 v174
  v175.toNat
def k0_dev7 (d0 : Dev nD) : Nat :=
  let c0_i32_136 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_135 : BitVec 32 := 4#32
  let v195 : BitVec 32 := Scalar.muli v9 c4_i32_135
  let v196 : BitVec 32 := Scalar.addi c0_i32_136 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v197 : BitVec 32 := Scalar.muli v5 c2_i32_137
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v199 : BitVec 32 := Scalar.muli v8 c1_i32_138
  let v200 : BitVec 32 := Scalar.addi v198 v199
  v200.toNat
def k0_dev8 (d0 : Dev nD) : Nat :=
  let c0_i32_154 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_153 : BitVec 32 := 4#32
  let v220 : BitVec 32 := Scalar.muli v9 c4_i32_153
  let v221 : BitVec 32 := Scalar.addi c0_i32_154 v220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v222 : BitVec 32 := Scalar.muli v5 c2_i32_155
  let v223 : BitVec 32 := Scalar.addi v221 v222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v224 : BitVec 32 := Scalar.muli v8 c1_i32_156
  let v225 : BitVec 32 := Scalar.addi v223 v224
  v225.toNat
def k0_dev9 (d0 : Dev nD) : Nat :=
  let c0_i32_172 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_171 : BitVec 32 := 4#32
  let v245 : BitVec 32 := Scalar.muli v9 c4_i32_171
  let v246 : BitVec 32 := Scalar.addi c0_i32_172 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v247 : BitVec 32 := Scalar.muli v5 c2_i32_173
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v249 : BitVec 32 := Scalar.muli v8 c1_i32_174
  let v250 : BitVec 32 := Scalar.addi v248 v249
  v250.toNat
def k0_dev10 (d0 : Dev nD) : Nat :=
  let c0_i32_190 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_189 : BitVec 32 := 4#32
  let v270 : BitVec 32 := Scalar.muli v9 c4_i32_189
  let v271 : BitVec 32 := Scalar.addi c0_i32_190 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v272 : BitVec 32 := Scalar.muli v5 c2_i32_191
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v274 : BitVec 32 := Scalar.muli v8 c1_i32_192
  let v275 : BitVec 32 := Scalar.addi v273 v274
  v275.toNat
def k0_off4 (d0 : Dev nD) (c0_i32_210 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_208 : BitVec 32 := 512#32
  let v296 : BitVec 32 := Scalar.muli v9 c512_i32_208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_209 : BitVec 32 := 256#32
  let v297 : BitVec 32 := Scalar.muli v8 c256_i32_209
  let v298 : BitVec 32 := Scalar.addi v296 v297
  let v299 : BitVec 32 := Scalar.addi v298 c0_i32_210
  let c0_i32_217 : BitVec 32 := 0#32
  ![v299.toNat, 0]
def k0_dev11 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v300 : BitVec 32 := Scalar.muli v2 c4_i32_213
  let v301 : BitVec 32 := Scalar.addi c0_i32_214 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v302 : BitVec 32 := Scalar.muli v5 c2_i32_215
  let v303 : BitVec 32 := Scalar.addi v301 v302
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_216 : BitVec 32 := 1#32
  let v304 : BitVec 32 := Scalar.muli v10 c1_i32_216
  let v305 : BitVec 32 := Scalar.addi v303 v304
  v305.toNat
def k0_dev12 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v330 : BitVec 32 := Scalar.muli v2 c4_i32_236
  let v331 : BitVec 32 := Scalar.addi c0_i32_237 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v332 : BitVec 32 := Scalar.muli v5 c2_i32_238
  let v333 : BitVec 32 := Scalar.addi v331 v332
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_239 : BitVec 32 := 1#32
  let v334 : BitVec 32 := Scalar.muli v10 c1_i32_239
  let v335 : BitVec 32 := Scalar.addi v333 v334
  v335.toNat
def k0_dev13 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v360 : BitVec 32 := Scalar.muli v2 c4_i32_259
  let v361 : BitVec 32 := Scalar.addi c0_i32_260 v360
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v362 : BitVec 32 := Scalar.muli v5 c2_i32_261
  let v363 : BitVec 32 := Scalar.addi v361 v362
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_262 : BitVec 32 := 1#32
  let v364 : BitVec 32 := Scalar.muli v10 c1_i32_262
  let v365 : BitVec 32 := Scalar.addi v363 v364
  v365.toNat
def k0_dev14 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v390 : BitVec 32 := Scalar.muli v2 c4_i32_282
  let v391 : BitVec 32 := Scalar.addi c0_i32_283 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v392 : BitVec 32 := Scalar.muli v5 c2_i32_284
  let v393 : BitVec 32 := Scalar.addi v391 v392
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_285 : BitVec 32 := 1#32
  let v394 : BitVec 32 := Scalar.muli v10 c1_i32_285
  let v395 : BitVec 32 := Scalar.addi v393 v394
  v395.toNat
def k0_dev15 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v420 : BitVec 32 := Scalar.muli v2 c4_i32_305
  let v421 : BitVec 32 := Scalar.addi c0_i32_306 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v422 : BitVec 32 := Scalar.muli v5 c2_i32_307
  let v423 : BitVec 32 := Scalar.addi v421 v422
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_308 : BitVec 32 := 1#32
  let v424 : BitVec 32 := Scalar.muli v10 c1_i32_308
  let v425 : BitVec 32 := Scalar.addi v423 v424
  v425.toNat
def k0_dev16 (d0 : Dev nD) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v450 : BitVec 32 := Scalar.muli v2 c4_i32_328
  let v451 : BitVec 32 := Scalar.addi c0_i32_329 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v452 : BitVec 32 := Scalar.muli v5 c2_i32_330
  let v453 : BitVec 32 := Scalar.addi v451 v452
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_331 : BitVec 32 := 1#32
  let v454 : BitVec 32 := Scalar.muli v10 c1_i32_331
  let v455 : BitVec 32 := Scalar.addi v453 v454
  v455.toNat
def k0_dev17 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v480 : BitVec 32 := Scalar.muli v2 c4_i32_351
  let v481 : BitVec 32 := Scalar.addi c0_i32_352 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v482 : BitVec 32 := Scalar.muli v5 c2_i32_353
  let v483 : BitVec 32 := Scalar.addi v481 v482
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_354 : BitVec 32 := 1#32
  let v484 : BitVec 32 := Scalar.muli v10 c1_i32_354
  let v485 : BitVec 32 := Scalar.addi v483 v484
  v485.toNat
def k0_dev18 (d0 : Dev nD) : Nat :=
  let c0_i32_375 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_374 : BitVec 32 := 4#32
  let v510 : BitVec 32 := Scalar.muli v2 c4_i32_374
  let v511 : BitVec 32 := Scalar.addi c0_i32_375 v510
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_376 : BitVec 32 := 2#32
  let v512 : BitVec 32 := Scalar.muli v5 c2_i32_376
  let v513 : BitVec 32 := Scalar.addi v511 v512
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_377 : BitVec 32 := 1#32
  let v514 : BitVec 32 := Scalar.muli v10 c1_i32_377
  let v515 : BitVec 32 := Scalar.addi v513 v514
  v515.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_383 : BitVec 32 := 512#32
  let v525 : BitVec 32 := Scalar.muli v2 c512_i32_383
  let v526 : Index := Scalar.indexCast v525
  let c0_384 : Index := 0#32
  ![v526.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.KernelIdeal.Prog.lean ====
/-
# The kernel's body as a list of steps

The body copies, casts and forwards the same eight chunks of 32 rows in each of its stretches. Here each stretch is
written once for a chunk number `k` and the body is the stretches folded over the eight chunks; `body_eq` says that
this is the printed body, by definitional unfolding.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Steps

open Cert.KernelIdeal Cert.KernelIdeal.Gen
open Idealize.ShloMosaic Idealize.ShloMosaic.TcCoe Idealize.SL.Sem

variable {F : FTy → Type} [FloatOps F]

/-- A program of one TensorCore of this module. -/
abbrev Pg (F : FTy → Type) := Prog (TpuEff nD τ sig (Elt F) Λ₀ .tc) PUnit

/-- Run `f k` for each `k` of the list in order, then go on with `p`. -/
def seqL {α : Type} (f : α → Pg F → Pg F) : List α → Pg F → Pg F
  | [], p => p
  | k :: l, p => f k (seqL f l p)

/-- The eight chunk numbers, in the order in which every stretch visits them. -/
def ks : List (Fin 8) := [0, 1, 2, 3, 4, 5, 6, 7]

/-- The argument's block, in HBM. -/
abbrev aM : Memref sig .tc .hbm S512x1024 .f32 := Memref.whole main_arg0
/-- The result's staging buffer, in VMEM: the kernel's output reference. -/
abbrev oM : Memref sig .tc .vmem S1024x512 .bf16 := Memref.whole cc0_stg0_0
/-- The half of the other column block that is sent, before the cast. -/
abbrev fM : Memref sig .tc .vmem S256x512 .f32 := Memref.whole cc0_scratch0
/-- The device's own column block, before the cast. -/
abbrev wM : Memref sig .tc .vmem S512x512 .f32 := Memref.whole cc0_scratch1
/-- The half that is sent, after the cast. -/
abbrev sM : Memref sig .tc .vmem S256x512 .bf16 := Memref.whole cc0_scratch2

/-- The runtime's barrier semaphore. -/
abbrev barS : Sem sig := (SemArray.scalar (sig.barrier 0 rfl) : Sems sig S_).sem

/-- The semaphore of the arrival of argument chunk `k`. -/
def inS (k : Fin 8) : DmaSem sig := ⟨1 + k.val, by have := k.isLt; show 1 + k.val < 42; omega⟩
/-- The semaphore of the arrival of the own column block. -/
def ownS : DmaSem sig := ⟨9, by decide⟩
/-- The semaphore of the departure of chunk `k` along x. -/
def xsS (k : Fin 8) : DmaSem sig := ⟨10 + k.val, by have := k.isLt; show 10 + k.val < 42; omega⟩
/-- The semaphore of the arrival of chunk `k` along x. -/
def xrS (k : Fin 8) : DmaSem sig := ⟨18 + k.val, by have := k.isLt; show 18 + k.val < 42; omega⟩
/-- The semaphore of the departure of chunk `k` along z. -/
def zsS (k : Fin 8) : DmaSem sig := ⟨26 + k.val, by have := k.isLt; show 26 + k.val < 42; omega⟩
/-- The semaphore of the arrival of chunk `k` along z. -/
def zrS (k : Fin 8) : DmaSem sig := ⟨34 + k.val, by have := k.isLt; show 34 + k.val < 42; omega⟩

/-- Chunk `k` of the two 256-row buffers lies inside them. -/
theorem chunk_inb : ∀ (k : Fin 8) (a), (![32 * k.val, 0] : Fin 2 → Nat) a + S32x512.size a ≤ S256x512.size a := by
  decide
/-- A chunk of the sent buffer is made of whole packed rows. -/
theorem chunk_packed : ∀ k : Fin 8,
    (Rect.unit (s := S256x512) ![32 * k.val, 0] S32x512.size (chunk_inb k)).PackedRows (EltTy.packing .bf16) := by
  decide +kernel
/-- A chunk of the sent buffer is made of whole words. -/
theorem chunk_words : ∀ k : Fin 8,
    (Rect.unit (s := S256x512) ![32 * k.val, 0] S32x512.size (chunk_inb k)).WholeWords (EltTy.packing .bf16) := by
  decide +kernel

/-- The rows of chunk `k` in a 256-row buffer. -/
abbrev ckR (k : Fin 8) : Rect S256x512 := Rect.unit (s := S256x512) ![32 * k.val, 0] S32x512.size (chunk_inb k)
/-- The rows of the result that chunk `k` goes to along x: device `d` writes them on its x neighbour. -/
abbrev xR (d : Dev nD) (k : Fin 8) : Rect S1024x512 :=
  Rect.unit (s := S1024x512) (k0_off3 d (BitVec.ofNat 32 (32 * k.val))) S32x512.size (k0_off3_inb d k)
/-- The rows of the result that device `d` forwards along z as chunk `k`. -/
abbrev zR (d : Dev nD) (k : Fin 8) : Rect S1024x512 :=
  Rect.unit (s := S1024x512) (k0_off4 d (BitVec.ofNat 32 (32 * k.val))) S32x512.size (k0_off4_inb d k)

/-- Argument chunk `k` of device `d`, where it lies in HBM. -/
abbrev aCk (d : Dev nD) (k : Fin 8) : Memref sig .tc .hbm S32x512 .f32 :=
  aM.slice (Rect.unit (s := S512x1024) (k0_off1 d (BitVec.ofNat 32 (32 * k.val))) S32x512.size (k0_off1_inb d k)) (fun _ => rfl)
/-- The own column block of device `d`, where it lies in HBM. -/
abbrev aOwn (d : Dev nD) : Memref sig .tc .hbm S512x512 .f32 :=
  aM.slice (Rect.unit (s := S512x1024) (k0_off2 d) S512x512.size (k0_off2_inb d)) (fun _ => rfl)
/-- Chunk `k` before the cast. -/
abbrev fCk (k : Fin 8) : Memref sig .tc .vmem S32x512 .f32 := fM.slice (ckR k) (fun _ => rfl)
/-- Chunk `k` after the cast. -/
abbrev sCk (k : Fin 8) : Memref sig .tc .vmem S32x512 .bf16 := sM.slice (ckR k) (fun _ => rfl)
/-- Chunk `k` of the result along x. -/
abbrev oX (d : Dev nD) (k : Fin 8) : Memref sig .tc .vmem S32x512 .bf16 := oM.slice (xR d k) (fun _ => rfl)
/-- Chunk `k` of the result along z. -/
abbrev oZ (d : Dev nD) (k : Fin 8) : Memref sig .tc .vmem S32x512 .bf16 := oM.slice (zR d k) (fun _ => rfl)

/-- The neighbour along x, as the kernel computes it. -/
abbrev xDev (d : Dev nD) : Dev nD := ⟨k0_dev1 d, k0_dev1_lt d⟩
/-- The neighbour along z, as the kernel computes it. -/
abbrev zDev (d : Dev nD) : Dev nD := ⟨k0_dev2 d, k0_dev2_lt d⟩

/-- What is stored for a loaded chunk: the cast to bfloat16. -/
def castCk (v : Vec F S32x512 .f32) : FVec F S32x512 .bf16 :=
  shapeCast S32x512 (truncf .bf16 v bitsLt_bf16_f32) shapeCasts_S32x512_S32x512
/-- What is stored for the own column block: the cast to bfloat16. -/
def castOwn (v : Vec F S512x512 .f32) : FVec F S512x512 .bf16 := k0_pay10 v

/-- Start the copy of argument chunk `k`. -/
def startIn (d : Dev nD) (k : Fin 8) (p : Pg F) : Pg F :=
  .op (.enqueueDma (aCk d k) (.here (fCk k)) (.dma (inS k)) (View.wordExact_bits rfl) (View.wordExact_bits rfl)
    ⟨Or.inl rfl, trivial⟩) fun _ => p

/-- Wait for argument chunk `k`, cast it, and send it along x. -/
def sendX (d : Dev nD) (k : Fin 8) (p : Pg F) : Pg F :=
  .op (.waitDma2 (inS k) (aCk d k) (fCk k) (View.wordExact_bits rfl) (View.wordExact_bits rfl)) fun _ =>
  .op (.load fM (ckR k).toLoadRect (View.loadsAt_vmem h_S32x512)) fun v =>
  .op (.load sM (ckR k).toLoadRect (View.loadsAt_vmem h_S32x512)) fun _ =>
  .op (.store sM (ckR k) (castCk v) Finset.univ
    (View.stores_vmem h_S32x512 ((Memref.isWhole_whole cc0_scratch2).storeExact_slice rfl _ (chunk_packed k)) (fun _ => rfl))
    (.inl rfl)) fun _ =>
  .op (.enqueueDma (sCk k) (.remote (Dev.tc (xDev d)) (oX d k) (.dma (xsS k))) (.dma (xrS k))
    ((Memref.isWhole_whole cc0_scratch2).wordExact_slice rfl _ (chunk_words k))
    ((Memref.isWhole_whole cc0_stg0_0).wordExact_slice rfl _ (k0_off3_wordsbf16 d k)) ⟨⟨rfl, Or.inl rfl⟩, trivial⟩) fun _ => p

/-- Wait for chunk `k` along x and forward it along z. -/
def sendZ (d : Dev nD) (k : Fin 8) (p : Pg F) : Pg F :=
  .op (.waitDma2 (xrS k) (sCk k) (oX d k) ((Memref.isWhole_whole cc0_scratch2).wordExact_slice rfl _ (chunk_words k))
    ((Memref.isWhole_whole cc0_stg0_0).wordExact_slice rfl _ (k0_off3_wordsbf16 d k))) fun _ =>
  .op (.enqueueDma (oZ d k) (.remote (Dev.tc (zDev d)) (oZ d k) (.dma (zsS k))) (.dma (zrS k))
    ((Memref.isWhole_whole cc0_stg0_0).wordExact_slice rfl _ (k0_off4_wordsbf16 d k))
    ((Memref.isWhole_whole cc0_stg0_0).wordExact_slice rfl _ (k0_off4_wordsbf16 d k)) ⟨⟨rfl, Or.inl rfl⟩, trivial⟩) fun _ => p

/-- Wait for the departure of chunk `k` along x. -/
def waitXs (d : Dev nD) (k : Fin 8) (p : Pg F) : Pg F :=
  .op (.waitDma2 (xsS k) (oX d k) (sCk k) ((Memref.isWhole_whole cc0_stg0_0).wordExact_slice rfl _ (k0_off3_wordsbf16 d k))
    ((Memref.isWhole_whole cc0_scratch2).wordExact_slice rfl _ (chunk_words k))) fun _ => p

/-- Wait for the departure of chunk `k` along z and for the arrival of the other one. -/
def waitZ (d : Dev nD) (k : Fin 8) (p : Pg F) : Pg F :=
  .op (.waitDma2 (zsS k) (oZ d k) (oZ d k) ((Memref.isWhole_whole cc0_stg0_0).wordExact_slice rfl _ (k0_off4_wordsbf16 d k))
    ((Memref.isWhole_whole cc0_stg0_0).wordExact_slice rfl _ (k0_off4_wordsbf16 d k))) fun _ =>
  .op (.waitDma2 (zrS k) (oZ d k) (oZ d k) ((Memref.isWhole_whole cc0_stg0_0).wordExact_slice rfl _ (k0_off4_wordsbf16 d k))
    ((Memref.isWhole_whole cc0_stg0_0).wordExact_slice rfl _ (k0_off4_wordsbf16 d k))) fun _ => p

/-- Wait for the own column block, cast it and store it. -/
def ownStep (d : Dev nD) (p : Pg F) : Pg F :=
  .op (.waitDma2 ownS (aOwn d) wM (View.wordExact_bits rfl) (Memref.isWhole_whole cc0_scratch1).wordExact) fun _ =>
  .op (.load wM (Rect.unit (s := S512x512) ![0, 0] S512x512.size inb_S512x512_S512x512_0_0).toLoadRect
    (View.loadsAt_vmem h_S512x512)) fun v =>
  .op (.load oM (Rect.unit (s := S1024x512) (k0_off5 d) S512x512.size (k0_off5_inb d)).toLoadRect
    (View.loadsAt_vmem h_S512x512)) fun _ =>
  .op (.store oM (Rect.unit (s := S1024x512) (k0_off5 d) S512x512.size (k0_off5_inb d)) (castOwn v) Finset.univ
    (View.stores_vmem h_S512x512 ((Memref.isWhole_whole cc0_stg0_0).storeExact_slice rfl _ (k0_off5_packedbf16 d)) (fun _ => rfl))
    (.inl rfl)) fun _ => p

/-- Tell both neighbours that this device has started. -/
def greet (d : Dev nD) (p : Pg F) : Pg F :=
  .op (.semSignal (Dev.tc (xDev d)) barS (1#32).toInt) fun _ =>
  .op (.semSignal (Dev.tc (zDev d)) barS (1#32).toInt) fun _ => p

/-- Start the copy of the own column block, then wait for both neighbours. -/
def meet (d : Dev nD) (p : Pg F) : Pg F :=
  .op (.enqueueDma (aOwn d) (.here wM) (.dma ownS) (View.wordExact_bits rfl) (Memref.isWhole_whole cc0_scratch1).wordExact
    ⟨Or.inl rfl, trivial⟩) fun _ =>
  .op (.semWait barS (2#32).toInt) fun _ => p

/-- The steps of device `d`. -/
def steps (d : Dev nD) : Pg F :=
  greet d <| seqL (startIn d) ks <| meet d <| seqL (sendX d) ks <| seqL (sendZ d) ks <| ownStep d <|
    seqL (waitXs d) ks <| seqL (waitZ d) ks <| .ret ⟨⟩

set_option maxRecDepth 65536 in
/-- The kernel's body reads its device number and then runs these steps. -/
theorem body_eq : cc0_body (F := F) (Memref.whole main_arg0) (Memref.isWhole_whole _) oM (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      cc0_scratch7 cc0_scratch8
    = .op .deviceId fun d => steps d := rfl

end Cert.KernelIdeal.Steps

end
-- ==== Proof.KernelIdeal.Geo.lean ====
/-
# The neighbours, the regions of the buffers and their contents

Device `d` stands at x = d / 4, y = d / 2 % 2, z = d % 2. Its result has 1024 rows: the 512 rows of its own x it
casts itself, of the other 512 rows the half of its own z comes from its x neighbour and the other half from its
z neighbour, each in eight chunks of 32 rows.
-/
module

public import proofs.«01_k».proof.Proof.KernelIdeal.Prog

@[expose] public section

noncomputable section

namespace Cert.KernelIdeal.Steps

open Cert.KernelIdeal Cert.KernelIdeal.Gen
open Idealize.ShloMosaic Idealize.ShloMosaic.TcCoe Idealize.SL.Sem

variable {F : FTy → Type} [FloatOps F]

/-! ## Coordinates -/

/-- The x coordinate of a device. -/
def cx (c : Dev nD) : ℕ := c.val / 4
/-- The z coordinate of a device. -/
def cz (c : Dev nD) : ℕ := c.val % 2

/-- The x coordinate is 0 or 1. -/
theorem cx_lt : ∀ c : Dev nD, cx c < 2 := by decide
/-- The z coordinate is 0 or 1. -/
theorem cz_lt : ∀ c : Dev nD, cz c < 2 := by decide
/-- The x neighbour's x neighbour is the device itself. -/
theorem xDev_xDev : ∀ c : Dev nD, xDev (xDev c) = c := by decide +kernel
/-- The z neighbour's z neighbour is the device itself. -/
theorem zDev_zDev : ∀ c : Dev nD, zDev (zDev c) = c := by decide +kernel
/-- The x neighbour has the other x coordinate. -/
theorem cx_xDev : ∀ c : Dev nD, cx (xDev c) = 1 - cx c := by decide +kernel
/-- The x neighbour has the same z coordinate. -/
theorem cz_xDev : ∀ c : Dev nD, cz (xDev c) = cz c := by decide +kernel
/-- The z neighbour has the same x coordinate. -/
theorem cx_zDev : ∀ c : Dev nD, cx (zDev c) = cx c := by decide +kernel
/-- The z neighbour has the other z coordinate. -/
theorem cz_zDev : ∀ c : Dev nD, cz (zDev c) = 1 - cz c := by decide +kernel
/-- The two neighbours of a device are different devices. -/
theorem xDev_ne_zDev : ∀ c : Dev nD, xDev c ≠ zDev c := by decide +kernel

/-- Where the copy in of chunk `k` starts in the argument. -/
theorem off1 : ∀ (c : Dev nD) (k : Fin 8),
    k0_off1 c (BitVec.ofNat 32 (32 * k.val)) = ![256 * cz c + 32 * k.val, 512 * (1 - cx c)] := by decide +kernel
/-- Where the copy of the device's own half starts in the argument. -/
theorem off2 : ∀ c : Dev nD, k0_off2 c = ![0, 512 * cx c] := by decide +kernel
/-- Where the first hop's chunk `k` starts in the result. -/
theorem off3 : ∀ (c : Dev nD) (k : Fin 8),
    k0_off3 c (BitVec.ofNat 32 (32 * k.val)) = ![512 * cx c + 256 * cz c + 32 * k.val, 0] := by decide +kernel
/-- Where the second hop's chunk `k` starts in the result. -/
theorem off4 : ∀ (c : Dev nD) (k : Fin 8),
    k0_off4 c (BitVec.ofNat 32 (32 * k.val)) = ![512 * (1 - cx c) + 256 * cz c + 32 * k.val, 0] := by decide +kernel
/-- Where the device's own half starts in the result. -/
theorem off5 : ∀ c : Dev nD, k0_off5 c = ![512 * cx c, 0] := by decide +kernel

/-! ## Regions -/

/-- Which chunk of a 256-row buffer an index lies in. -/
def fCls (i : S256x512.Idx) : Fin 8 := ⟨(i 0).val / 32, by have : (i 0).val < 256 := (i 0).isLt; omega⟩

/-- Which part of device `c`'s result an index lies in: none for its own rows, `(false, k)` for the chunk `k` that
    comes along x, `(true, k)` for the one that comes along z. -/
def oCls (c : Dev nD) (i : S1024x512.Idx) : Option (Bool × Fin 8) :=
  if (i 0).val / 512 = cx c then none
  else some (decide ((i 0).val % 512 / 256 ≠ cz c), ⟨(i 0).val % 256 / 32, by omega⟩)

/-- Which part of device `c`'s argument block an index lies in: `some none` its own columns, `some (some k)` chunk
    `k` of what it sends, none the rest. -/
def aCls (c : Dev nD) (i : S512x1024.Idx) : Option (Option (Fin 8)) :=
  if (i 1).val / 512 = cx c then some none
  else if (i 0).val / 256 = cz c then some (some ⟨(i 0).val % 256 / 32, by omega⟩) else none

/-- Chunk `k` of a 256-row buffer. -/
def fReg (k : Fin 8) : Finset S256x512.Idx := Finset.univ.filter fun i => fCls i = k
/-- Part `t` of the result of device `c`. -/
def oReg (c : Dev nD) (t : Option (Bool × Fin 8)) : Finset S1024x512.Idx := Finset.univ.filter fun i => oCls c i = t
/-- Part `t` of the argument block of device `c`. -/
def aReg (c : Dev nD) (t : Option (Option (Fin 8))) : Finset S512x1024.Idx := Finset.univ.filter fun i => aCls c i = t

/-- The rows of chunk `k` of the scratch buffers. -/
theorem fCls_iff (i : S256x512.Idx) (k : Fin 8) : fCls i = k ↔ (i 0).val / 32 = k.val := by
  rw [Fin.ext_iff]; rfl

/-- The rows of chunk `k` received over either hop. -/
theorem oCls_some (c : Dev nD) (i : S1024x512.Idx) (b : Bool) (k : Fin 8) :
    oCls c i = some (b, k) ↔ (i 0).val / 512 ≠ cx c ∧ ((i 0).val % 512 / 256 ≠ cz c ↔ b = true) ∧ (i 0).val % 256 / 32 = k.val := by
  unfold oCls
  split
  · rename_i h; simp [h]
  · rename_i h
    rw [Option.some.injEq, Prod.mk.injEq, Fin.ext_iff]
    cases b <;> simp [h]

/-- The rows of the half the device computes itself. -/
theorem oCls_none (c : Dev nD) (i : S1024x512.Idx) : oCls c i = none ↔ (i 0).val / 512 = cx c := by
  unfold oCls
  split <;> simp_all

/-- The rectangle of chunk `k` is its region. -/
theorem mem_ckR (k : Fin 8) : (ckR k).set = fReg k := by
  ext i
  have h0 : (i 0).val < 256 := (i 0).isLt
  have h1 : (i 1).val < 512 := (i 1).isLt
  rw [Rect.mem_set_unit, fReg, Finset.mem_filter, fCls_iff, and_iff_right (Finset.mem_univ i), Fin.forall_fin_two]
  show (32 * k.val ≤ (i 0).val ∧ (i 0).val < 32 * k.val + 32) ∧ (0 ≤ (i 1).val ∧ (i 1).val < 0 + 512) ↔ _
  omega

/-- The rows to which a device's x neighbour sends are its `(false, k)` part. -/
theorem mem_xR (c : Dev nD) (k : Fin 8) : (xR (xDev c) k).set = oReg c (some (false, k)) := by
  ext i
  have h0 : (i 0).val < 1024 := (i 0).isLt
  have h1 : (i 1).val < 512 := (i 1).isLt
  have hk := k.isLt
  have hx := cx_lt c
  have hz := cz_lt c
  rw [Rect.mem_set_unit, oReg, Finset.mem_filter, oCls_some, and_iff_right (Finset.mem_univ i), Fin.forall_fin_two, off3, cx_xDev, cz_xDev]
  show (512 * (1 - cx c) + 256 * cz c + 32 * k.val ≤ (i 0).val ∧ (i 0).val < 512 * (1 - cx c) + 256 * cz c + 32 * k.val + 32)
    ∧ (0 ≤ (i 1).val ∧ (i 1).val < 0 + 512) ↔ _
  simp only [Bool.false_eq_true, iff_false, not_not]
  omega

/-- The rows a device forwards along z are the ones that came along x. -/
theorem mem_zR (c : Dev nD) (k : Fin 8) : (zR c k).set = oReg c (some (false, k)) := by
  rw [← mem_xR]
  ext i
  rw [Rect.mem_set_unit, Rect.mem_set_unit, off3, off4, cx_xDev, cz_xDev]

/-- The rows a device's z neighbour forwards are its `(true, k)` part. -/
theorem mem_zR' (c : Dev nD) (k : Fin 8) : (zR (zDev c) k).set = oReg c (some (true, k)) := by
  ext i
  have h0 : (i 0).val < 1024 := (i 0).isLt
  have h1 : (i 1).val < 512 := (i 1).isLt
  have hk := k.isLt
  have hx := cx_lt c
  have hz := cz_lt c
  rw [Rect.mem_set_unit, oReg, Finset.mem_filter, oCls_some, and_iff_right (Finset.mem_univ i), Fin.forall_fin_two, off4, cx_zDev, cz_zDev]
  show (512 * (1 - cx c) + 256 * (1 - cz c) + 32 * k.val ≤ (i 0).val ∧ (i 0).val < 512 * (1 - cx c) + 256 * (1 - cz c) + 32 * k.val + 32)
    ∧ (0 ≤ (i 1).val ∧ (i 1).val < 0 + 512) ↔ _
  simp only [iff_true]
  omega

/-- The rectangle of the own rows of the result. -/
abbrev ownR (c : Dev nD) : Rect S1024x512 := Rect.unit (s := S1024x512) (k0_off5 c) S512x512.size (k0_off5_inb c)

/-- The rectangle of the device's own half is its region. -/
theorem mem_ownR (c : Dev nD) : (ownR c).set = oReg c none := by
  ext i
  have h0 : (i 0).val < 1024 := (i 0).isLt
  have h1 : (i 1).val < 512 := (i 1).isLt
  have hx := cx_lt c
  rw [Rect.mem_set_unit, oReg, Finset.mem_filter, oCls_none, and_iff_right (Finset.mem_univ i), Fin.forall_fin_two, off5]
  show (512 * cx c ≤ (i 0).val ∧ (i 0).val < 512 * cx c + 512) ∧ (0 ≤ (i 1).val ∧ (i 1).val < 0 + 512) ↔ _
  omega

/-- The rectangle of chunk `k` of the argument is its region. -/
theorem mem_aCk (c : Dev nD) (k : Fin 8) :
    (Rect.unit (s := S512x1024) (k0_off1 c (BitVec.ofNat 32 (32 * k.val))) S32x512.size (k0_off1_inb c k)).set = aReg c (some (some k)) := by
  ext i
  have h0 : (i 0).val < 512 := (i 0).isLt
  have h1 : (i 1).val < 1024 := (i 1).isLt
  have hk := k.isLt
  have hx := cx_lt c
  have hz := cz_lt c
  rw [Rect.mem_set_unit, aReg, Finset.mem_filter, Fin.forall_fin_two, off1]
  show (256 * cz c + 32 * k.val ≤ (i 0).val ∧ (i 0).val < 256 * cz c + 32 * k.val + 32)
    ∧ (512 * (1 - cx c) ≤ (i 1).val ∧ (i 1).val < 512 * (1 - cx c) + 512) ↔ _
  unfold aCls
  split
  · simp only [reduceCtorEq, Option.some.injEq, and_false, iff_false]; omega
  · split
    · simp only [Option.some.injEq, Fin.ext_iff, Finset.mem_univ, true_and]; omega
    · simp only [reduceCtorEq, and_false, iff_false]; omega

/-- The rectangle of the device's own half of the argument is its region. -/
theorem mem_aOwn (c : Dev nD) :
    (Rect.unit (s := S512x1024) (k0_off2 c) S512x512.size (k0_off2_inb c)).set = aReg c (some none) := by
  ext i
  have h0 : (i 0).val < 512 := (i 0).isLt
  have h1 : (i 1).val < 1024 := (i 1).isLt
  have hx := cx_lt c
  rw [Rect.mem_set_unit, aReg, Finset.mem_filter, Fin.forall_fin_two, off2]
  show (0 ≤ (i 0).val ∧ (i 0).val < 0 + 512) ∧ (512 * cx c ≤ (i 1).val ∧ (i 1).val < 512 * cx c + 512) ↔ _
  unfold aCls
  split
  · simp only [Finset.mem_univ, true_and, iff_true]; omega
  · split <;> · simp only [reduceCtorEq, Option.some.injEq, and_false, iff_false]; omega

/-- Chunk `k` of the buffer before the cast covers its region. -/
theorem set_fCk (k : Fin 8) : (fCk k).view.set = fReg k := (View.set_slice_whole _ _).trans (mem_ckR k)
/-- Chunk `k` of the sent buffer covers its region. -/
theorem set_sCk (k : Fin 8) : (sCk k).view.set = fReg k := (View.set_slice_whole _ _).trans (mem_ckR k)
/-- What the x neighbour sends as chunk `k` lands in this region of the result. -/
theorem set_oX (c : Dev nD) (k : Fin 8) : (oX (xDev c) k).view.set = oReg c (some (false, k)) :=
  (View.set_slice_whole _ _).trans (mem_xR c k)
/-- What the device forwards as chunk `k` is this region of its result. -/
theorem set_oZ (c : Dev nD) (k : Fin 8) : (oZ c k).view.set = oReg c (some (false, k)) :=
  (View.set_slice_whole _ _).trans (mem_zR c k)
/-- What the z neighbour forwards as chunk `k` lands in this region of the result. -/
theorem set_oZ' (c : Dev nD) (k : Fin 8) : (oZ (zDev c) k).view.set = oReg c (some (true, k)) :=
  (View.set_slice_whole _ _).trans (mem_zR' c k)
/-- Chunk `k` of the argument covers its region. -/
theorem set_aCk (c : Dev nD) (k : Fin 8) : (aCk c k).view.set = aReg c (some (some k)) :=
  (View.set_slice_whole _ _).trans (mem_aCk c k)
/-- The device's own half of the argument covers its region. -/
theorem set_aOwn (c : Dev nD) : (aOwn c).view.set = aReg c (some none) :=
  (View.set_slice_whole _ _).trans (mem_aOwn c)

/-! ## Contents -/

/-- The memories a run starts from. -/
abbrev Mem (F : FTy → Type) := (ℓ : Loc nD τ sig) → Buf (Elt F) ℓ

/-- The cast of one float to bfloat16. -/
def cst (x : Elt F .f32) : Elt F .bf16 := FloatOps.truncf (F := F) (φ := .f32) .bf16 bitsLt_bf16_f32 x

/-- Row `i` and column `j` as an index of an argument block. -/
def ptA (i j : ℕ) : S512x1024.Idx := fun a =>
  ⟨(![i, j] : Fin 2 → ℕ) a % S512x1024.size a, Nat.mod_lt _ (by revert a; decide)⟩

/-- An index is the one of its row and column. -/
theorem ptA_self (x : S512x1024.Idx) : ptA (x 0).val (x 1).val = x := by
  funext a
  apply Fin.ext
  fin_cases a
  · exact Nat.mod_eq_of_lt (x 0).isLt
  · exact Nat.mod_eq_of_lt (x 1).isLt

variable (m : Mem F)

/-- The argument block of device `c` before the run. -/
def aF (c : Dev nD) : S512x1024.Idx → Elt F .f32 := m ((c : Thread nD τ).loc main_arg0)
/-- Its entry at row `i` and column `j`. -/
def aAt (c : Dev nD) (i j : ℕ) : Elt F .f32 := aF m c (ptA i j)

/-- The argument by rows and columns. -/
theorem aF_eq (c : Dev nD) (x : S512x1024.Idx) : aF m c x = aAt m c (x 0).val (x 1).val := by
  rw [aAt, ptA_self]

/-- What device `c` sends, before the cast. -/
def f32F (c : Dev nD) : S256x512.Idx → Elt F .f32 := fun i => aAt m c (256 * cz c + (i 0).val) (512 * (1 - cx c) + (i 1).val)
/-- The own columns of device `c`, before the cast. -/
def ownF (c : Dev nD) : S512x512.Idx → Elt F .f32 := fun i => aAt m c (i 0).val (512 * cx c + (i 1).val)
/-- What device `c` sends. -/
def sndF (c : Dev nD) : S256x512.Idx → Elt F .bf16 := fun i => cst (f32F m c i)
/-- The device whose argument block row `r` of device `c`'s result comes from. -/
def src (c : Dev nD) (r : ℕ) : Dev nD :=
  if r / 512 = cx c then c else if r % 512 / 256 = cz c then xDev c else xDev (zDev c)
/-- The result of device `c`. -/
def outF (c : Dev nD) : S1024x512.Idx → Elt F .bf16 := fun i =>
  cst (aAt m (src c (i 0).val) ((i 0).val % 512) (512 * cx c + (i 1).val))

/-- What lands in a view from another one is the whole-buffer contents `G`, where the two agree element by element. -/
theorem landed_eq {sp sp' : _} {s : Shape} {e : EltTy} (v : View sig .tc sp s e) (w : View sig .tc sp' s e)
    (fd G : v.ty.Contents (Elt F)) (fs : w.ty.Contents (Elt F))
    (h : ∀ x, w.read (Elt F) fs x = v.read (Elt F) G x) :
    ∀ i ∈ v.set, v.write (Elt F) fd (w.read (Elt F) fs) Finset.univ i = G i := by
  intro i hi
  obtain ⟨x, -, rfl⟩ := Finset.mem_map.mp hi
  rw [View.write_emb_of_mem _ _ (Finset.mem_univ x), h, View.read_apply, cast_cast, cast_eq]

/-- An argument chunk is what lands in the buffer before the cast. -/
theorem read_aCk (c : Dev nD) (k : Fin 8) (x : S32x512.Idx) :
    (aCk c k).view.read (Elt F) (aF m c) x = (fCk k).view.read (Elt F) (f32F m c) x := by
  show aF m c ((Rect.unit (s := S512x1024) (k0_off1 c (BitVec.ofNat 32 (32 * k.val))) S32x512.size (k0_off1_inb c k)).emb x)
    = f32F m c ((ckR k).emb x)
  rw [aF_eq, f32F]
  congr 1
  · show k0_off1 c (BitVec.ofNat 32 (32 * k.val)) 0 + 1 * (x 0).val = 256 * cz c + (32 * k.val + 1 * (x 0).val)
    rw [off1]; show 256 * cz c + 32 * k.val + 1 * (x 0).val = _; omega
  · show k0_off1 c (BitVec.ofNat 32 (32 * k.val)) 1 + 1 * (x 1).val = 512 * (1 - cx c) + (0 + 1 * (x 1).val)
    rw [off1]; show 512 * (1 - cx c) + 1 * (x 1).val = _; omega

/-- The own columns of the argument block are what lands in their buffer. -/
theorem read_aOwn (c : Dev nD) (x : S512x512.Idx) :
    (aOwn c).view.read (Elt F) (aF m c) x = wM.view.read (Elt F) (ownF m c) x := by
  show aF m c ((Rect.unit (s := S512x1024) (k0_off2 c) S512x512.size (k0_off2_inb c)).emb x) = ownF m c x
  rw [aF_eq, ownF]
  congr 1
  · show k0_off2 c 0 + 1 * (x 0).val = (x 0).val
    rw [off2]; show 0 + 1 * (x 0).val = _; omega
  · show k0_off2 c 1 + 1 * (x 1).val = 512 * cx c + (x 1).val
    rw [off2]; show 512 * cx c + 1 * (x 1).val = _; omega

/-- A chunk sent along x is the result's chunk on the neighbour. -/
theorem read_sCk (c : Dev nD) (k : Fin 8) (x : S32x512.Idx) :
    (sCk k).view.read (Elt F) (sndF m c) x = (oX c k).view.read (Elt F) (outF m (xDev c)) x := by
  show sndF m c ((ckR k).emb x) = outF m (xDev c) ((xR c k).emb x)
  have e0 : ((xR c k).emb x 0).val = 512 * cx c + 256 * cz c + 32 * k.val + (x 0).val := by
    show k0_off3 c (BitVec.ofNat 32 (32 * k.val)) 0 + 1 * (x 0).val = _
    rw [off3]; show 512 * cx c + 256 * cz c + 32 * k.val + 1 * (x 0).val = _; omega
  have e1 : ((xR c k).emb x 1).val = (x 1).val := by
    show k0_off3 c (BitVec.ofNat 32 (32 * k.val)) 1 + 1 * (x 1).val = _
    rw [off3]; show 0 + 1 * (x 1).val = _; omega
  have f0 : ((ckR k).emb x 0).val = 32 * k.val + (x 0).val := by
    show 32 * k.val + 1 * (x 0).val = _; omega
  have f1 : ((ckR k).emb x 1).val = (x 1).val := by
    show 0 + 1 * (x 1).val = _; omega
  have hk := k.isLt
  have hx := cx_lt c
  have hz := cz_lt c
  have h0 : (x 0).val < 32 := (x 0).isLt
  have hs : src (xDev c) ((xR c k).emb x 0).val = c := by
    unfold src
    rw [e0, cx_xDev, cz_xDev, if_neg (by omega), if_pos (by omega), xDev_xDev]
  rw [sndF, f32F, outF, hs, e0, e1, f0, f1, cx_xDev]
  congr 2
  omega

/-- A chunk forwarded along z is the result's chunk on the neighbour. -/
theorem read_oZ (c : Dev nD) (k : Fin 8) (x : S32x512.Idx) :
    (oZ c k).view.read (Elt F) (outF m c) x = (oZ c k).view.read (Elt F) (outF m (zDev c)) x := by
  show outF m c ((zR c k).emb x) = outF m (zDev c) ((zR c k).emb x)
  have e0 : ((zR c k).emb x 0).val = 512 * (1 - cx c) + 256 * cz c + 32 * k.val + (x 0).val := by
    show k0_off4 c (BitVec.ofNat 32 (32 * k.val)) 0 + 1 * (x 0).val = _
    rw [off4]; show 512 * (1 - cx c) + 256 * cz c + 32 * k.val + 1 * (x 0).val = _; omega
  have hk := k.isLt
  have hx := cx_lt c
  have hz := cz_lt c
  have h0 : (x 0).val < 32 := (x 0).isLt
  rw [outF, outF, cx_zDev]
  congr 2
  unfold src
  rw [e0, cx_zDev, cz_zDev, zDev_zDev, if_neg (by omega), if_pos (by omega), if_neg (by omega), if_neg (by omega)]

/-- Storing the cast of a loaded chunk leaves the sent contents on that chunk. -/
theorem stored_sCk (c : Dev nD) (k : Fin 8) (fd : S256x512.Idx → Elt F .bf16) :
    ∀ i ∈ fReg k, (sM.access (ckR k)).write (Elt F) fd (castCk (fM.view.readAt (Elt F) (ckR k).toLoadRect (f32F m c))) Finset.univ i
      = sndF m c i := by
  intro i hi
  rw [← mem_ckR] at hi
  obtain ⟨x, -, rfl⟩ := Finset.mem_map.mp ((Rect.map_emb_univ (ckR k)).symm ▸ hi)
  refine (View.write_emb_of_mem (v := sM.access (ckR k)) fd _ (Finset.mem_univ x)).trans ?_
  show castCk _ x = _
  unfold castCk
  unfold shapeCast
  rw [Shape.reshapeEquiv_self]
  rfl

/-- Storing the cast of the loaded own columns leaves the result on the own rows. -/
theorem stored_own (c : Dev nD) (fd : S1024x512.Idx → Elt F .bf16) :
    ∀ i ∈ oReg c none, (oM.access (ownR c)).write (Elt F) fd (castOwn (ownF m c)) Finset.univ i = outF m c i := by
  intro i hi
  rw [← mem_ownR] at hi
  obtain ⟨x, -, rfl⟩ := Finset.mem_map.mp ((Rect.map_emb_univ (ownR c)).symm ▸ hi)
  refine (View.write_emb_of_mem (v := oM.access (ownR c)) fd _ (Finset.mem_univ x)).trans ?_
  show castOwn (ownF m c) x = outF m c ((ownR c).emb x)
  have e0 : ((ownR c).emb x 0).val = 512 * cx c + (x 0).val := by
    show k0_off5 c 0 + 1 * (x 0).val = _
    rw [off5]; show 512 * cx c + 1 * (x 0).val = _; omega
  have e1 : ((ownR c).emb x 1).val = (x 1).val := by
    show k0_off5 c 1 + 1 * (x 1).val = _
    rw [off5]; show 0 + 1 * (x 1).val = _; omega
  have h0 : (x 0).val < 512 := (x 0).isLt
  have hs : src c ((ownR c).emb x 0).val = c := by
    unfold src
    rw [e0, if_pos (by omega)]
  rw [outF, hs, e0, e1]
  show cst (ownF m c x) = _
  rw [ownF]
  congr 2
  omega

end Cert.KernelIdeal.Steps

end
-- ==== Proof.KernelIdeal.Sched.lean ====
/-
# The schedule of the semaphores

Every semaphore the kernel uses is one cell per device with one round:

* the barrier cell of device `c` gets one unit from the x neighbour, with which that neighbour hands over the rows of
  its result that `c` will send to along x, and one from the z neighbour, with the rows `c` will forward to along z;
* the cell of argument chunk `k` gets the chunk's credit from `c`'s own copy, which hands over the landed chunk and
  gives the argument's chunk back; the cell of the own columns likewise;
* the departure cell of chunk `k` along x gives the sent chunk back, the arrival cell hands over the landed rows;
* the departure cell along z gives the forwarded rows back, the arrival cell hands over the landed rows.
-/
module

public import proofs.«01_k».proof.Proof.KernelIdeal.Geo
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the kernel's cells. -/
abbrev UB : Type := URounds (GSem nD τ sig) Bool
/-- The pipeline's rounds and the kernel's. -/
abbrev UU : Type := UR sig nD τ × UB

local notation "𝕄" => MT nD τ sig Unit (Elt F) ℕ UU ℕ

/-- The pipeline's copy. -/
abbrev EP : Emb (UR sig nD τ) (MT nD τ sig Unit (Elt F) ℕ UU ℕ) := embL
/-- The kernel's copy. -/
abbrev ER : Emb UB (MT nD τ sig Unit (Elt F) ℕ UU ℕ) := embR

variable (m : Mem F)

/-! ## Cells -/

/-- The kind of a chunk's semaphore: arrival of the argument chunk, departure and arrival along x, departure and
    arrival along z. -/
abbrev Ch : Type := Fin 5 × Fin 8
/-- A DMA semaphore of the kernel: that of the own columns, or a chunk's. -/
abbrev Dn : Type := Option Ch
/-- A semaphore of the kernel: the barrier or a DMA semaphore. -/
abbrev Cn : Type := Option Dn

/-- The DMA semaphore of a name. -/
def sm : Dn → DmaSem sig
  | none => ownS
  | some (0, k) => inS k
  | some (1, k) => xsS k
  | some (2, k) => xrS k
  | some (3, k) => zsS k
  | some (4, k) => zrS k

/-- The name of a DMA semaphore. -/
def dec (s : DmaSem sig) : Dn :=
  if s.val = 9 then none
  else
    let n := if s.val < 9 then s.val - 1 else s.val - 2
    some (⟨n / 8 % 5, Nat.mod_lt _ (by decide)⟩, ⟨n % 8, Nat.mod_lt _ (by decide)⟩)

/-- A DMA semaphore's name is read off its index. -/
theorem dec_sm : ∀ n : Dn, dec (sm n) = n := by decide +kernel
/-- Different names are different DMA semaphores. -/
theorem sm_injective : Function.Injective sm := fun a b h => by rw [← dec_sm a, h, dec_sm]

/-- The semaphore of a name. -/
def csem : Cn → SemLoc sig
  | none => .reg barS
  | some n => .dma (sm n)

/-- The cell of a name on a device. -/
abbrev cell (c : Dev nD) (n : Cn) : GSem nD τ sig := ((c : Thread nD τ), csem n)

/-- Different names are different semaphores. -/
theorem csem_injective : Function.Injective csem := by
  intro a b h
  cases a with
  | none => cases b with
    | none => rfl
    | some b => cases h
  | some a => cases b with
    | none => cases h
    | some b => exact congrArg some (sm_injective (SemLoc.dma.inj h))

/-- A cell is known by its device and its name. -/
theorem cell_injective : Function.Injective (fun p : Dev nD × Cn => cell p.1 p.2) := by
  rintro ⟨c, n⟩ ⟨c', n'⟩ h
  have h1 : c = c' := congrArg (fun g : GSem nD τ sig => g.1.1) h
  have h2 : n = n' := csem_injective (congrArg Prod.snd h)
  rw [h1, h2]

/-- The credit of a chunk before the cast. -/
def nF : ℕ := (fCk 0).view.dmaCredit
/-- The credit of the own columns. -/
def nW : ℕ := wM.view.dmaCredit
/-- The credit of a chunk after the cast. -/
def nB : ℕ := (sCk 0).view.dmaCredit

/-- A chunk's copy in pays something. -/
theorem nF_pos : 0 < nF := View.dmaCredit_pos _ (by decide)
/-- The own half's copy pays something. -/
theorem nW_pos : 0 < nW := View.dmaCredit_pos _ (by decide)
/-- A remote copy pays something. -/
theorem nB_pos : 0 < nB := View.dmaCredit_pos _ (by decide)

/-- The credit of a DMA semaphore. -/
def amt : Dn → ℕ
  | none => nW
  | some (0, _) => nF
  | some _ => nB

/-- Every copy pays something. -/
theorem amt_pos : ∀ n, 0 < amt n
  | none => nW_pos
  | some (0, _) => nF_pos
  | some (1, _) => nB_pos
  | some (2, _) => nB_pos
  | some (3, _) => nB_pos
  | some (4, _) => nB_pos

/-! ## Ownership of the parts of the buffers -/

/-- Part `t` of the argument block of device `c`, as it was at the start. -/
abbrev aPts (c : Dev nD) (t : Option (Option (Fin 8))) : sProp 𝕄 :=
  ((c : Thread nD τ).loc main_arg0) ↦[aReg c t]{fullShare} (m ((c : Thread nD τ).loc main_arg0))
/-- Chunk `k` of the buffer before the cast. -/
abbrev fPts (c : Dev nD) (k : Fin 8) (f : S256x512.Idx → Elt F .f32) : sProp 𝕄 :=
  ((c : Thread nD τ).loc cc0_scratch0) ↦[fReg k]{fullShare} f
/-- The buffer of the own columns. -/
abbrev wPts (c : Dev nD) (f : S512x512.Idx → Elt F .f32) : sProp 𝕄 :=
  ((c : Thread nD τ).loc cc0_scratch1) ↦{fullShare} f
/-- Chunk `k` of the sent buffer. -/
abbrev sPts (c : Dev nD) (k : Fin 8) (f : S256x512.Idx → Elt F .bf16) : sProp 𝕄 :=
  ((c : Thread nD τ).loc cc0_scratch2) ↦[fReg k]{fullShare} f
/-- Part `t` of the result. -/
abbrev oPts (c : Dev nD) (t : Option (Bool × Fin 8)) (f : S1024x512.Idx → Elt F .bf16) : sProp 𝕄 :=
  ((c : Thread nD τ).loc cc0_stg0_0) ↦[oReg c t]{fullShare} f

/-- A buffer is its parts under a classification of its indices. -/
theorem pointsTo_parts {ℓ : Loc nD τ sig} {T : Type} [Fintype T] [DecidableEq T] (g : Idx ℓ → T) (f : Buf (Elt F) ℓ) :
    (ℓ ↦{fullShare} f : sProp 𝕄) = bigSep Finset.univ fun t => ℓ ↦[Finset.univ.filter fun i => g i = t]{fullShare} f := by
  rw [← pointsTo_biUnion]
  · congr 1
    ext i
    simp
  · intro t _ t' _ h
    rw [Finset.disjoint_left]
    intro i hi hi'
    rw [Finset.mem_filter] at hi hi'
    exact h (hi.2.symm.trans hi'.2)

/-! ## Lists of chunks -/

/-- A conjunction over the chunks, listed. -/
theorem bigSep_ks (Φ : Fin 8 → sProp 𝕄) : bigSep Finset.univ Φ = bigSepL ks Φ :=
  bigSep_univ_eq_bigSepL ks (by decide) (by decide) Φ

omit [FloatOps F] in
/-- The two middle ones of four things change places. -/
theorem sep_exch (A B C D : sProp 𝕄) : iprop((A ∗ B) ∗ C ∗ D) ⊢ iprop((A ∗ C) ∗ B ∗ D) := by
  iintro ⟨⟨HA, HB⟩, HC, HD⟩
  isplitl [HA HC]
  · isplitl [HA] <;> iassumption
  · isplitl [HB] <;> iassumption

/-- A conjunction of pairs is a pair of conjunctions. -/
theorem bigSepL_sep (l : List (Fin 8)) (Φ Ψ : Fin 8 → sProp 𝕄) :
    bigSepL l (fun k => iprop(Φ k ∗ Ψ k)) = iprop(bigSepL l Φ ∗ bigSepL l Ψ) := by
  induction l with
  | nil => exact (equiv_iff.mp emp_sep).symm
  | cons k l ih =>
    rw [bigSepL_cons', bigSepL_cons', bigSepL_cons', ih]
    exact equiv_iff.mp ⟨sep_exch _ _ _ _, sep_exch _ _ _ _⟩

/-- The names of the semaphores, listed: the barrier, the own columns, then the five kinds of chunk semaphores. -/
def cnL : List Cn :=
  [none, some none] ++ (ks.map (fun k => some (some (0, k))) ++ (ks.map (fun k => some (some (1, k)))
    ++ (ks.map (fun k => some (some (2, k))) ++ (ks.map (fun k => some (some (3, k))) ++ ks.map (fun k => some (some (4, k)))))))

/-- A conjunction over the cells' names, listed by kind. -/
theorem bigSep_Cn (Φ : Cn → sProp 𝕄) :
    bigSep Finset.univ Φ = iprop((Φ none ∗ Φ (some none)) ∗ bigSepL ks (fun k => Φ (some (some (0, k))))
      ∗ bigSepL ks (fun k => Φ (some (some (1, k)))) ∗ bigSepL ks (fun k => Φ (some (some (2, k))))
      ∗ bigSepL ks (fun k => Φ (some (some (3, k)))) ∗ bigSepL ks (fun k => Φ (some (some (4, k))))) := by
  rw [bigSep_univ_eq_bigSepL cnL (by decide +kernel) (by decide +kernel), cnL, bigSepL_append, bigSepL_append, bigSepL_append,
    bigSepL_append, bigSepL_append, bigSepL_map, bigSepL_map, bigSepL_map, bigSepL_map, bigSepL_map]
  rfl

/-! ## The schedule -/

/-- What the x neighbour's signal hands device `c`: the rows `c` sends to along x. -/
def barX (c : Dev nD) : sProp 𝕄 := bigSep Finset.univ fun k : Fin 8 => iprop(∃ f, oPts (xDev c) (some (false, k)) f)
/-- What the z neighbour's signal hands device `c`: the rows `c` forwards to along z. -/
def barZ (c : Dev nD) : sProp 𝕄 := bigSep Finset.univ fun k : Fin 8 => iprop(∃ f, oPts (zDev c) (some (true, k)) f)

/-- What a DMA semaphore of device `c` hands it. -/
def dPay (c : Dev nD) : Dn → sProp 𝕄
  | none => iprop(wPts c (ownF m c) ∗ aPts m c (some none))
  | some (0, k) => iprop(fPts c k (f32F m c) ∗ aPts m c (some (some k)))
  | some (1, k) => sPts c k (sndF m c)
  | some (2, k) => oPts c (some (false, k)) (outF m c)
  | some (3, k) => oPts c (some (false, k)) (outF m c)
  | some (4, k) => oPts c (some (true, k)) (outF m c)

omit [FloatOps F] in
/-- What the x neighbour's signal hands over can be kept in an invariant. -/
instance barX_storable (c : Dev nD) : BI.Storable (upEmb : UEmb _ 𝕄) (barX (F := F) c) := by unfold barX; infer_instance
omit [FloatOps F] in
/-- What the z neighbour's signal hands over can be kept in an invariant. -/
instance barZ_storable (c : Dev nD) : BI.Storable (upEmb : UEmb _ 𝕄) (barZ (F := F) c) := by unfold barZ; infer_instance
/-- What a copy hands over can be kept in an invariant. -/
instance dPay_storable (c : Dev nD) : ∀ n, BI.Storable (upEmb : UEmb _ 𝕄) (dPay m c n)
  | none => by unfold dPay; infer_instance
  | some (0, k) => by unfold dPay; infer_instance
  | some (1, k) => by unfold dPay; infer_instance
  | some (2, k) => by unfold dPay; infer_instance
  | some (3, k) => by unfold dPay; infer_instance
  | some (4, k) => by unfold dPay; infer_instance

/-- One round: the barrier cell's two duties, `true` the x neighbour's and `false` the z neighbour's, of one unit each;
    every DMA cell's one duty. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma s => amt (dec s)
  payload g _ d := match g.2 with
    | .reg _ => bif d then barX g.1.1 else barZ g.1.1
    | .dma s => dPay m g.1.1 (dec s)
  amount_pos g _ _ _ := by
    obtain ⟨t, s⟩ := g
    cases s with
    | reg _ => exact Nat.one_pos
    | dma s => exact amt_pos _

/-- Everything the schedule hands over can be kept in an invariant. -/
instance Rd_payload_storable (g : GSem nD τ sig) (r : ℕ) (d : Bool) :
    BI.Storable (upEmb : UEmb _ 𝕄) ((Rd m).payload g r d) := by
  obtain ⟨t, s⟩ := g
  cases s with
  | reg _ =>
    show BI.Storable upEmb (bif d then barX t.1 else barZ t.1)
    cases d <;> (dsimp only [cond]; infer_instance)
  | dma s => exact dPay_storable m t.1 (dec s)

variable (c : Dev nD)

/-- The barrier has two duties in its one round. -/
theorem duties_bar : (Rd m).duties (cell c none) 0 = Finset.univ := rfl
/-- A DMA cell has one duty in its one round. -/
theorem duties_dma (n : Dn) : (Rd m).duties (cell c (some n)) 0 = {false} := rfl
/-- No cell has a later round. -/
theorem duties_later (g : GSem nD τ sig) : ∀ r, 1 ≤ r → (Rd m).duties g r = ∅ :=
  fun r hr => if_neg (by omega)
/-- Either signal is one unit. -/
theorem amount_bar (d : Bool) : (Rd m).amount (cell c none) 0 d = 1 := rfl
/-- A copy pays its size. -/
theorem amount_dma (n : Dn) (d : Bool) : (Rd m).amount (cell c (some n)) 0 d = amt n := by
  show amt (dec (sm n)) = amt n
  rw [dec_sm]
/-- What the two signals hand over. -/
theorem payload_bar (d : Bool) : (Rd m).payload (cell c none) 0 d = bif d then barX c else barZ c := rfl
/-- What a copy hands over. -/
theorem payload_dma (n : Dn) (d : Bool) : (Rd m).payload (cell c (some n)) 0 d = dPay m c n := by
  show dPay m c (dec (sm n)) = dPay m c n
  rw [dec_sm]

/-- The barrier's round is two units. -/
theorem expect_bar : (Rd m).expect (cell c none) 0 = 2 := by
  unfold Schedule.expect Schedule.amountOf
  rw [duties_bar, Finset.sum_congr rfl fun d _ => amount_bar m c d]
  rfl
/-- A DMA cell's round is its copy's size. -/
theorem expect_dma (n : Dn) : (Rd m).expect (cell c (some n)) 0 = amt n := by
  unfold Schedule.expect Schedule.amountOf
  rw [duties_dma, Finset.sum_singleton, amount_dma]

/-- What the barrier's wait yields: both neighbours' rows. -/
theorem rest_bar : bigSep ((Rd m).duties (cell c none) 0 \ ∅) (fun d => (Rd m).payload (cell c none) 0 d)
    = iprop(barZ c ∗ barX c) := by
  rw [Finset.sdiff_empty, duties_bar, bigSep_univ_eq_bigSepL [false, true] (by decide) (by decide)]
  rfl
/-- What a DMA cell's wait yields. -/
theorem rest_dma (n : Dn) : bigSep ((Rd m).duties (cell c (some n)) 0 \ ∅) (fun d => (Rd m).payload (cell c (some n)) 0 d)
    = dPay m c n := by
  rw [Finset.sdiff_empty, duties_dma, bigSep_singleton, payload_dma]

/-! ## What a device owes, and the order of the waits -/

/-- The arrivals along x that device `c` owes its x neighbour, for the chunks of a list. -/
def OX (c : Dev nD) : List (Fin 8) → CellTallies nD τ sig Unit
  | [] => 0
  | k :: l => OX c l + tallyAt (cell (xDev c) (some (some (2, k)))) () nB
/-- The arrivals along z that device `c` owes its z neighbour, for the chunks of a list. -/
def OZ (c : Dev nD) : List (Fin 8) → CellTallies nD τ sig Unit
  | [] => 0
  | k :: l => OZ c l + tallyAt (cell (zDev c) (some (some (4, k)))) () nB
/-- What device `c` owes after its first signal. -/
def O₁ (c : Dev nD) : CellTallies nD τ sig Unit := (OZ c ks + OX c ks) + tallyAt (cell (zDev c) none) () 1
/-- What device `c` owes at the start. -/
def O₀ (c : Dev nD) : CellTallies nD τ sig Unit := O₁ c + tallyAt (cell (xDev c) none) () 1

/-- Only the TensorCores' cells have a level. -/
def L (g : GSem nD τ sig) : Finset Unit := if g.1.2 = .tc then {()} else ∅
/-- The order of the waits: what waits for nobody, then the barrier, then arrivals along x, then arrivals along z. -/
def lvS : SemLoc sig → ℕ
  | .reg _ => 1
  | .dma s => if 18 ≤ s.val ∧ s.val < 26 then 2 else if 34 ≤ s.val then 3 else 0
/-- The level of a cell is its semaphore's. -/
def lv (g : GSem nD τ sig) (_ : Unit) : ℕ := lvS g.2

/-- The first hop's arrivals are at level 2. -/
theorem lv_xr : ∀ k : Fin 8, lvS (csem (some (some (2, k)))) = 2 := by decide
/-- The second hop's arrivals are at level 3. -/
theorem lv_zr : ∀ k : Fin 8, lvS (csem (some (some (4, k)))) = 3 := by decide
/-- The copies in are at level 0. -/
theorem lv_in : ∀ k : Fin 8, lvS (csem (some (some (0, k)))) = 0 := by decide

/-- No other thread's cells have a level. -/
theorem L_of_ne (g : GSem nD τ sig) (h : g.1.2 ≠ .tc) : L g = ∅ := if_neg h
/-- Every cell of a device's main thread has one. -/
theorem L_tc (n : SemLoc sig) : L ((c : Thread nD τ), n) = {()} := if_pos rfl

/-- What may still be owed is on TensorCore cells above level `n`. -/
def Above (n : ℕ) (O : CellTallies nD τ sig Unit) : Prop := ∀ g u, 0 < O g u → g.1.2 = .tc ∧ n < lvS g.2

/-- Nothing owed is above every level. -/
theorem above_zero (n : ℕ) : Above n 0 := fun g u h => absurd h (Nat.lt_irrefl 0)
/-- Two debts above a level are above it together. -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
/-- A debt to a cell above a level. -/
theorem above_tally {n : ℕ} (c : Dev nD) (s : Cn) (k : ℕ) (hn : n < lvS (csem s)) : Above n (tallyAt (cell c s) () k) := by
  intro g u hg
  rw [tallyAt_apply] at hg
  by_cases h : g = cell c s ∧ u = ()
  · rw [h.1]; exact ⟨rfl, hn⟩
  · rw [if_neg h] at hg; exact absurd hg (Nat.lt_irrefl 0)
/-- The first hop's debts are above level 1. -/
theorem above_OX {n : ℕ} (hn : n < 2) (c : Dev nD) : ∀ l, Above n (OX c l)
  | [] => above_zero n
  | k :: l => above_add (above_OX hn c l) (above_tally _ _ _ (by rw [lv_xr]; exact hn))
/-- The second hop's debts are above level 2. -/
theorem above_OZ {n : ℕ} (hn : n < 3) (c : Dev nD) : ∀ l, Above n (OZ c l)
  | [] => above_zero n
  | k :: l => above_add (above_OZ hn c l) (above_tally _ _ _ (by rw [lv_zr]; exact hn))
/-- All that is owed at the start is above level 0. -/
theorem above_O₀ (c : Dev nD) : Above 0 (O₀ c) :=
  above_add (above_add (above_add (above_OZ (by decide) c ks) (above_OX (by decide) c ks)) (above_tally _ _ _ (by decide)))
    (above_tally _ _ _ (by decide))

omit [FloatOps F] in
/-- A device may wait on a cell below everything it owes. -/
theorem mayWait (s : SemLoc sig) (O : CellTallies nD τ sig Unit) (hO : Above (lvS s) O) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => (hO g u hg).2)

end Cert.KernelIdeal.Steps

end
-- ==== Proof.KernelIdeal.Step.lean ====
/-
# One chunk of each stretch

For each stretch of the body, what one chunk takes and what it leaves: the specification of the step at chunk `k`,
stated for every device and every chunk. The stretches themselves follow by induction over the list of chunks.
-/
module

public import proofs.«01_k».proof.Proof.KernelIdeal.Sched

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Mem F)

/-- The kernel has no loop, so no variant. -/
abbrev 𝒱₀ : Variants := Variants.none

/-- Device `c` runs `p` to `Q`. -/
abbrev WP (c : Dev nD) (p : Pg F) (Q : PUnit → sProp 𝕄) : sProp 𝕄 :=
  wp frame (wpE (defs₀ (F := F)) 𝒱₀ (c : Thread nD τ) none) Set.univ p Q

/-- A stretch: if one chunk turns `pre k` into `post k` and moves the state `St`, the whole list does so for all its
    chunks. -/
theorem wp_seqL (c : Dev nD) {α : Type} (f : α → Pg F → Pg F) (Pers : sProp 𝕄) [BI.Persistent Pers] (pre post : α → sProp 𝕄)
    (St : List α → sProp 𝕄) (Q : PUnit → sProp 𝕄)
    (step : ∀ k l p, iprop(Pers ∗ pre k ∗ St (k :: l)) ⊢ iprop(((post k ∗ St l) -∗ WP c p Q) -∗ WP c (f k p) Q)) :
    ∀ l p, iprop(Pers ∗ bigSepL l pre ∗ St l) ⊢ iprop(((bigSepL l post ∗ St []) -∗ WP c p Q) -∗ WP c (seqL f l p) Q)
  | [], p => by
    iintro ⟨-, He, HS⟩ Hk
    iapply Hk
    isplitl [He]
    · iexact He
    · iexact HS
  | k :: l, p => by
    rw [bigSepL_cons', bigSepL_cons']
    iintro ⟨#HP, ⟨Hpre, Hrest⟩, HS⟩ Hk
    iapply (step k l (seqL f l p)) $$ [Hpre HS]
    · isplitr; · iexact HP
      isplitl [Hpre] <;> iassumption
    iintro ⟨Hpost, HS⟩
    iapply (wp_seqL c f Pers pre post St Q step l p) $$ [Hrest HS]
    · isplitr; · iexact HP
      isplitl [Hrest] <;> iassumption
    iintro ⟨Hposts, HS⟩
    iapply Hk
    isplitl [Hpost Hposts]
    · isplitl [Hpost] <;> iassumption
    · iexact HS

/-! ## What every device knows -/

section

variable (K : Dev nD × Cn → ℕ)

/-- Every cell follows the schedule and is open for its round. -/
def recs : sProp 𝕄 :=
  iprop((bigSep Finset.univ fun p : Dev nD × Cn => cellInv ER (Rd m) (K p) (cell p.1 p.2))
    ∗ bigSep Finset.univ fun p : Dev nD × Cn => reached ER (cell p.1 p.2) 0)

/-- The cells' schedule and the order of the waits. -/
def ctx : sProp 𝕄 := iprop(recs m K ∗ levAts L lv)

/-- The invariants and reached rounds may be used any number of times. -/
instance recs_persistent : BI.Persistent (recs m K) := by unfold recs; infer_instance
/-- So may they with the levels. -/
instance ctx_persistent : BI.Persistent (ctx m K) := by unfold ctx; infer_instance

/-- The invariant of one cell. -/
theorem ctx_inv (c : Dev nD) (n : Cn) : ctx m K ⊢ cellInv ER (Rd m) (K (c, n)) (cell c n) := by
  unfold ctx recs
  iintro ⟨⟨H, -⟩, -⟩
  iapply (show (bigSep Finset.univ fun p : Dev nD × Cn => cellInv ER (Rd m) (K p) (cell p.1 p.2)) ⊢ (cellInv ER (Rd m) (K (c, n)) (cell c n) : sProp 𝕄)
    from BI.bigSep_elim (Finset.mem_univ ((c, n) : Dev nD × Cn)))
  iexact H
/-- One cell has reached its first round. -/
theorem ctx_reached (c : Dev nD) (n : Cn) : ctx m K ⊢ reached ER (cell c n) 0 := by
  unfold ctx recs
  iintro ⟨⟨-, H⟩, -⟩
  iapply (show (bigSep Finset.univ fun p : Dev nD × Cn => reached ER (cell p.1 p.2) 0) ⊢ (reached ER (cell c n) 0 : sProp 𝕄)
    from BI.bigSep_elim (Finset.mem_univ ((c, n) : Dev nD × Cn)))
  iexact H
/-- The levels. -/
theorem ctx_lev : ctx m K ⊢ (levAts L lv : sProp 𝕄) := by
  unfold ctx
  iintro ⟨-, H⟩
  iexact H

variable (c : Dev nD)

/-- The token of the one duty of a DMA cell. -/
abbrev tok (c : Dev nD) (n : Dn) : sProp 𝕄 := dutyTok ER (cell c (some n)) 0 false
/-- The position of a cell's owner before its round. -/
abbrev pos (c : Dev nD) (n : Cn) : sProp 𝕄 := atPos ER (cell c n) 0 ∅ 0
/-- The credit of a DMA cell. -/
abbrev crd (c : Dev nD) (n : Dn) : sProp 𝕄 := cred (tallyAt (cell c (some n)) () (amt n))
/-- A cell's counter at zero. -/
abbrev zer (c : Dev nD) (n : Cn) : sProp 𝕄 := semVal (cell c n) 0
/-- Device `c` owes `O`. -/
def ow (c : Dev nD) (O : CellTallies nD τ sig Unit) : sProp 𝕄 := iprop(∃ W, owes (c : Thread nD τ) O W)

/-- A wait on a DMA cell: it takes the credit and the owner's position, hands over what the cell holds and leaves its
    counter at zero. -/
theorem wp_wait_dma (n : Dn) {sp sp' : Space} {s s' : Shape} {e e' : EltTy} {src : Memref sig .tc sp' s' e'} {dst : Memref sig .tc sp s e}
    {hsrc : src.view.WordExact} {hdst : dst.view.WordExact} (hN : dst.view.dmaCredit = amt n)
    (O : CellTallies nD τ sig Unit) (hO : Above (lvS (csem (some n))) O) (p : Pg F) (Q : PUnit → sProp 𝕄) :
    iprop(ctx m K ∗ crd c n ∗ pos c (some n) ∗ ow c O)
      ⊢ iprop(((ow c O ∗ zer c (some n) ∗ dPay m c n) -∗ WP c p Q) -∗ WP c (.op (.waitDma2 (sm n) src dst hsrc hdst) fun _ => p) Q) := by
  unfold ow
  iintro ⟨#HP, Hc, Hat, %W, HO⟩ Hk
  iapply (Rounds.wp_wait_rest_token 𝒱₀ ER (Rd m) (c : Thread nD τ) none (κ := K (c, some n))
      (sm := csem (some n)) (k' := amt n) (hw := fun Q => (wpE_waitDma2_eq 𝒱₀ (c : Thread nD τ) none Set.univ Q).trans (by rw [hN]; rfl)) (Set.mem_univ _) ()
      (O := O) (W := W) (R := 0) (m := 0) (T := ∅) (by rw [Nat.zero_add]; exact (expect_dma m c n).symm)) $$ [Hc HO Hat]
  · isplitr; · iapply (ctx_inv m K c (some n)); iexact HP
    isplitl [Hc]; · iexact Hc
    isplitl [HO]; · iexact HO
    isplitr; · iapply (mayWait c _ O hO); iapply (ctx_lev m K); iexact HP
    iexact Hat
  iintro ⟨HO, Hat, -, Hpay⟩
  ihave Hp := (Entails.of_eq (rest_dma m c n)) $$ Hpay
  imod (Rounds.cell_close ER (Rd m) (Set.mem_univ (K (c, some n))) (fun h => h) (R := 0 + 1) (duties_later m (cell c (some n)))) $$ [Hat] with Hz
  · isplitr; · iapply (ctx_inv m K c (some n)); iexact HP
    iexact Hat
  iapply Hk
  isplitl [HO]
  · iexists _; iexact HO
  isplitl [Hz] <;> iassumption

/-! ## The steps -/

/-- A chunk's copy in pays its cell's amount. -/
theorem amount_f (k : Fin 8) : (fCk k).view.amount (csem (some (some (0, k)))) = amt (some (0, k)) := rfl

/-- What lands for argument chunk `k` is what its cell hands over. -/
theorem pay_in (k : Fin 8) (f : S256x512.Idx → Elt F .f32) :
    iprop(((fCk k).view.loc (c : Thread nD τ) ↦[(fCk k).view.set]{fullShare}
          ((fCk k).view.write (Elt F) f ((aCk c k).view.read (Elt F) (aF m c)) Finset.univ))
        ∗ ((aCk c k).view.loc (c : Thread nD τ) ↦[(aCk c k).view.set]{fullShare} (aF m c)))
      ⊢ (Rd m).payload (cell c (some (some (0, k)))) 0 false := by
  rw [payload_dma, pointsTo_congr (landed_eq (fCk k).view (aCk c k).view f (f32F m c) (aF m c) (read_aCk m c k)), set_fCk, set_aCk]
  exact BI.Entails.refl _

/-- Chunk `k` of the buffer before the cast, as the copy in writes it. -/
theorem fPts_eq (k : Fin 8) (f : S256x512.Idx → Elt F .f32) :
    fPts c k f = ((fCk k).view.loc (c : Thread nD τ) ↦[(fCk k).view.set]{fullShare} f : sProp 𝕄) := by rw [set_fCk]
/-- Chunk `k` of the argument, as the copy in reads it. -/
theorem aPts_eq (k : Fin 8) : aPts m c (some (some k))
    = ((aCk c k).view.loc (c : Thread nD τ) ↦[(aCk c k).view.set]{fullShare} (aF m c) : sProp 𝕄) := by rw [set_aCk]; rfl

/-- Starting the copy of a chunk of the argument. -/
theorem wp_startIn (k : Fin 8) (p : Pg F) (Q : PUnit → sProp 𝕄) :
    iprop(ctx m K ∗ ((∃ f, fPts c k f) ∗ aPts m c (some (some k)) ∗ tok c (some (0, k))) ∗ emp)
      ⊢ iprop(((crd c (some (0, k)) ∗ emp) -∗ WP c p Q) -∗ WP c (startIn c k p) Q) := by
  unfold startIn
  iintro ⟨#HP, ⟨⟨%f, Hf⟩, Ha, Ht⟩, -⟩ Hk
  ihave Hf' := (Entails.of_eq (fPts_eq c k f)) $$ Hf
  ihave Ha' := (Entails.of_eq (aPts_eq m c k)) $$ Ha
  iapply (Rounds.wp_copy_pointsTo 𝒱₀ ER (Rd m) (c : Thread nD τ) none (κ := K (c, some (some (0, k)))) (r := 0) (d := false)
      (src := aCk c k) (dst := fCk k) (fd := f) (fs := aF m c) (q := fullShare)
      (sem := csem (some (some (0, k)))) (by rw [duties_dma]; exact Finset.mem_singleton_self _) () (amt (some (0, k))) (amount_f k) (amount_dma m c _ false)
      (pay_in m c k f)) $$ [Hf' Ha' Ht]
  · isplitr; · iapply (ctx_inv m K c (some (some (0, k)))); iexact HP
    isplitl [Ha']; · iexact Ha'
    isplitl [Hf']; · iexact Hf'
    isplitl [Ht]; · iexact Ht
    iapply (ctx_reached m K c (some (some (0, k)))); iexact HP
  iintro Hc
  iapply Hk
  isplitl [Hc]
  · iexact Hc
  · iempintro

/-- Telling both neighbours: each signal hands over the rows of the result that the neighbour will write. -/
theorem wp_greet (p : Pg F) (Q : PUnit → sProp 𝕄) :
    iprop(ctx m K ∗ dutyTok ER (cell (xDev c) none) 0 true ∗ dutyTok ER (cell (zDev c) none) 0 false
        ∗ barX (xDev c) ∗ barZ (zDev c) ∗ ow c (O₀ c))
      ⊢ iprop((ow c (OZ c ks + OX c ks) -∗ WP c p Q) -∗ WP c (greet c p) Q) := by
  unfold greet ow
  iintro ⟨#HP, HtX, HtZ, HbX, HbZ, %W, HO⟩ Hk
  iapply (Rounds.wp_signal 𝒱₀ ER (Rd m) (c : Thread nD τ) none (dst := (xDev c : Thread nD τ)) (κ := K (xDev c, none))
      (sem := barS) (r := 0) (d := true) (show true ∈ (Rd m).duties (cell (xDev c) none) 0 from Finset.mem_univ _) ((amount_bar m (xDev c) true).trans (by decide)) () (O₁ c) rfl)
    $$ [HO HtX HbX]
  · isplitr; · iapply (ctx_inv m K (xDev c) none); iexact HP
    isplitl [HO]; · iexact HO
    isplitl [HtX]; · iexact HtX
    isplitl [HbX]; · iapply (show barX (xDev c) ⊢ (Rd m).payload ((xDev c : Thread nD τ), .reg barS) 0 true from BI.Entails.refl _); iexact HbX
    iapply (ctx_reached m K (xDev c) none); iexact HP
  iintro HO
  unfold O₁
  iapply (Rounds.wp_signal 𝒱₀ ER (Rd m) (c : Thread nD τ) none (dst := (zDev c : Thread nD τ)) (κ := K (zDev c, none))
      (sem := barS) (r := 0) (d := false) (show false ∈ (Rd m).duties (cell (zDev c) none) 0 from Finset.mem_univ _) ((amount_bar m (zDev c) false).trans (by decide)) () (OZ c ks + OX c ks) rfl)
    $$ [HO HtZ HbZ]
  · isplitr; · iapply (ctx_inv m K (zDev c) none); iexact HP
    isplitl [HO]; · iexact HO
    isplitl [HtZ]; · iexact HtZ
    isplitl [HbZ]; · iapply (show barZ (zDev c) ⊢ (Rd m).payload ((zDev c : Thread nD τ), .reg barS) 0 false from BI.Entails.refl _); iexact HbZ
    iapply (ctx_reached m K (zDev c) none); iexact HP
  iintro HO
  iapply Hk
  iexists _; iexact HO

/-- The own half's copy pays its cell's amount. -/
theorem amount_w : wM.view.amount (csem (some none)) = amt none := rfl

/-- The own half of the argument, as its copy reads it. -/
theorem aOwn_eq : aPts m c (some none)
    = ((aOwn c).view.loc (c : Thread nD τ) ↦[(aOwn c).view.set]{fullShare} (aF m c) : sProp 𝕄) := by rw [set_aOwn]; rfl
/-- The own half's buffer, as its copy writes it. -/
theorem wPts_eq (f : S512x512.Idx → Elt F .f32) :
    wPts c f = (wM.view.loc (c : Thread nD τ) ↦[wM.view.set]{fullShare} f : sProp 𝕄) := by
  rw [show wM.view.set = Finset.univ from View.set_whole _]

/-- What lands for the own columns is what their cell hands over. -/
theorem pay_own (f : S512x512.Idx → Elt F .f32) :
    iprop((wM.view.loc (c : Thread nD τ) ↦[wM.view.set]{fullShare}
          (wM.view.write (Elt F) f ((aOwn c).view.read (Elt F) (aF m c)) Finset.univ))
        ∗ ((aOwn c).view.loc (c : Thread nD τ) ↦[(aOwn c).view.set]{fullShare} (aF m c)))
      ⊢ (Rd m).payload (cell c (some none)) 0 false := by
  rw [payload_dma, pointsTo_congr (landed_eq wM.view (aOwn c).view f (ownF m c) (aF m c) (read_aOwn m c)), ← wPts_eq, set_aOwn]
  exact BI.Entails.refl _

/-- Starting the copy of the own columns and waiting for both neighbours: the rows of theirs that this device writes come
    with it. -/
theorem wp_meet (p : Pg F) (Q : PUnit → sProp 𝕄) :
    iprop(ctx m K ∗ (∃ f, wPts c f) ∗ aPts m c (some none) ∗ tok c none ∗ cred (tallyAt (cell c none) () 2) ∗ pos c none
        ∗ ow c (OZ c ks + OX c ks))
      ⊢ iprop(((crd c none ∗ zer c none ∗ barX c ∗ barZ c ∗ ow c (OZ c ks + OX c ks)) -∗ WP c p Q) -∗ WP c (meet c p) Q) := by
  unfold meet ow
  iintro ⟨#HP, ⟨%f, Hw⟩, Ha, Ht, Hc, Hat, %W, HO⟩ Hk
  ihave Hw' := (Entails.of_eq (wPts_eq c f)) $$ Hw
  ihave Ha' := (Entails.of_eq (aOwn_eq m c)) $$ Ha
  iapply (Rounds.wp_copy_pointsTo 𝒱₀ ER (Rd m) (c : Thread nD τ) none (κ := K (c, some none)) (r := 0) (d := false)
      (src := aOwn c) (dst := wM) (fd := f) (fs := aF m c) (q := fullShare)
      (sem := csem (some none)) (by rw [duties_dma]; exact Finset.mem_singleton_self _) () (amt none) amount_w (amount_dma m c _ false)
      (pay_own m c f)) $$ [Hw' Ha' Ht]
  · isplitr; · iapply (ctx_inv m K c (some none)); iexact HP
    isplitl [Ha']; · iexact Ha'
    isplitl [Hw']; · iexact Hw'
    isplitl [Ht]; · iexact Ht
    iapply (ctx_reached m K c (some none)); iexact HP
  iintro Hcw
  iapply (Rounds.wp_wait_rest_token 𝒱₀ ER (Rd m) (c : Thread nD τ) none (κ := K (c, none))
      (sm := csem none) (wpE_semWait_eq 𝒱₀ (c : Thread nD τ) none Set.univ) (Set.mem_univ _) () (O := OZ c ks + OX c ks) (W := W) (R := 0) (m := 0) (T := ∅)
      ((show 0 + (2#32).toInt.toNat = 2 by decide).trans (expect_bar m c).symm)) $$ [Hc HO Hat]
  · isplitr; · iapply (ctx_inv m K c none); iexact HP
    isplitl [Hc]; · iexact Hc
    isplitl [HO]; · iexact HO
    isplitr
    · iapply (mayWait c _ _ (above_add (above_OZ (by decide) c ks) (above_OX (by decide) c ks))); iapply (ctx_lev m K); iexact HP
    iexact Hat
  iintro ⟨HO, Hat, -, Hpay⟩
  ihave Hp := (Entails.of_eq (rest_bar m c)) $$ Hpay
  icases Hp with ⟨HbZ, HbX⟩
  imod (Rounds.cell_close ER (Rd m) (Set.mem_univ (K (c, none))) (fun h => h) (R := 0 + 1) (duties_later m (cell c none))) $$ [Hat] with Hz
  · isplitr; · iapply (ctx_inv m K c none); iexact HP
    iexact Hat
  iapply Hk
  isplitl [Hcw]; · iexact Hcw
  isplitl [Hz]; · iexact Hz
  isplitl [HbX]; · iexact HbX
  isplitl [HbZ]; · iexact HbZ
  iexists _; iexact HO

/-! ### Sending along x -/

/-- What a device sends as chunk `k` lands in this region of its x neighbour's result. -/
theorem set_oX_to (k : Fin 8) : (oX c k).view.set = oReg (xDev c) (some (false, k)) := by
  have h := set_oX (xDev c) k
  rw [xDev_xDev] at h
  exact h
/-- What a device forwards as chunk `k` lands in this region of its z neighbour's result. -/
theorem set_oZ_to (k : Fin 8) : (oZ c k).view.set = oReg (zDev c) (some (true, k)) := by
  have h := set_oZ' (zDev c) k
  rw [zDev_zDev] at h
  exact h
/-- The load of chunk `k` stays in its region. -/
theorem setOn_f (k : Fin 8) : fM.view.setOn (ckR k).toLoadRect.set ⊆ fReg k := by
  rw [← mem_ckR]
  intro i hi
  obtain ⟨j, hj, rfl⟩ := Finset.mem_map.mp hi
  exact hj
/-- The load of the sent chunk `k` stays in its region. -/
theorem setOn_s (k : Fin 8) : sM.view.setOn (ckR k).toLoadRect.set ⊆ fReg k := by
  rw [← mem_ckR]
  intro i hi
  obtain ⟨j, hj, rfl⟩ := Finset.mem_map.mp hi
  exact hj
/-- The store of the sent chunk `k` stays in its region. -/
theorem access_s (k : Fin 8) : (sM.access (ckR k)).setOn Finset.univ ⊆ fReg k := by
  rw [← set_sCk]
  exact Finset.Subset.refl _

/-- A first-hop copy pays the amount of its cells. -/
theorem amount_s (k : Fin 8) : (oX c k).view.amount (csem (some (some (2, k)))) = nB := rfl
/-- A second-hop copy pays the amount of its cells. -/
theorem amount_z (k : Fin 8) : (oZ c k).view.amount (csem (some (some (4, k)))) = nB := rfl

/-- Chunk `k` of the sent buffer, as the first hop reads it. -/
theorem sPts_eq (k : Fin 8) (f : S256x512.Idx → Elt F .bf16) :
    sPts c k f = ((sCk k).view.loc (c : Thread nD τ) ↦[(sCk k).view.set]{fullShare} f : sProp 𝕄) := by rw [set_sCk]
/-- A region of the x neighbour's result, as the first hop writes it. -/
theorem oPts_x (k : Fin 8) (f : S1024x512.Idx → Elt F .bf16) :
    oPts (xDev c) (some (false, k)) f
      = ((oX c k).view.loc (xDev c : Thread nD τ) ↦[(oX c k).view.set]{fullShare} f : sProp 𝕄) := by rw [set_oX_to]
/-- A region of the z neighbour's result, as the second hop writes it. -/
theorem oPts_z (k : Fin 8) (f : S1024x512.Idx → Elt F .bf16) :
    oPts (zDev c) (some (true, k)) f
      = ((oZ c k).view.loc (zDev c : Thread nD τ) ↦[(oZ c k).view.set]{fullShare} f : sProp 𝕄) := by rw [set_oZ_to]
/-- A region of the result, as the second hop reads it. -/
theorem oPts_own (k : Fin 8) (f : S1024x512.Idx → Elt F .bf16) :
    oPts c (some (false, k)) f
      = ((oZ c k).view.loc (c : Thread nD τ) ↦[(oZ c k).view.set]{fullShare} f : sProp 𝕄) := by rw [set_oZ]

/-- The sent chunk comes back with its departure. -/
theorem pay_xs (k : Fin 8) :
    ((sCk k).view.loc (c : Thread nD τ) ↦[(sCk k).view.set]{fullShare} (sndF m c) : sProp 𝕄)
      ⊢ (Rd m).payload (cell c (some (some (1, k)))) 0 false := by
  rw [payload_dma, ← sPts_eq]
  exact BI.Entails.refl _
/-- What lands along x on the neighbour is that neighbour's result. -/
theorem pay_xr (k : Fin 8) (f : S1024x512.Idx → Elt F .bf16) :
    ((oX c k).view.loc (xDev c : Thread nD τ) ↦[(oX c k).view.set]{fullShare}
        ((oX c k).view.write (Elt F) f ((sCk k).view.read (Elt F) (sndF m c)) Finset.univ) : sProp 𝕄)
      ⊢ (Rd m).payload (cell (xDev c) (some (some (2, k)))) 0 false := by
  rw [payload_dma, pointsTo_congr (landed_eq (oX c k).view (sCk k).view f (outF m (xDev c)) (sndF m c) (read_sCk m c k)), set_oX_to]
  exact BI.Entails.refl _
/-- The forwarded rows come back with their departure. -/
theorem pay_zs (k : Fin 8) :
    ((oZ c k).view.loc (c : Thread nD τ) ↦[(oZ c k).view.set]{fullShare} (outF m c) : sProp 𝕄)
      ⊢ (Rd m).payload (cell c (some (some (3, k)))) 0 false := by
  rw [payload_dma, ← oPts_own]
  exact BI.Entails.refl _
/-- What lands along z on the neighbour is that neighbour's result. -/
theorem pay_zr (k : Fin 8) (f : S1024x512.Idx → Elt F .bf16) :
    ((oZ c k).view.loc (zDev c : Thread nD τ) ↦[(oZ c k).view.set]{fullShare}
        ((oZ c k).view.write (Elt F) f ((oZ c k).view.read (Elt F) (outF m c)) Finset.univ) : sProp 𝕄)
      ⊢ (Rd m).payload (cell (zDev c) (some (some (4, k)))) 0 false := by
  rw [payload_dma, pointsTo_congr (landed_eq (oZ c k).view (oZ c k).view f (outF m (zDev c)) (outF m c) (read_oZ m c k)), set_oZ_to]
  exact BI.Entails.refl _

/-- Waiting for a chunk, casting it and sending it along x. -/
theorem wp_sendX (k : Fin 8) (l : List (Fin 8)) (p : Pg F) (Q : PUnit → sProp 𝕄) :
    iprop(ctx m K ∗ (crd c (some (0, k)) ∗ pos c (some (some (0, k))) ∗ (∃ f, sPts c k f) ∗ (∃ f, oPts (xDev c) (some (false, k)) f)
          ∗ tok c (some (1, k)) ∗ tok (xDev c) (some (2, k))) ∗ ow c (OZ c ks + OX c (k :: l)))
      ⊢ iprop((((zer c (some (some (0, k))) ∗ fPts c k (f32F m c) ∗ aPts m c (some (some k)) ∗ crd c (some (1, k)))
          ∗ ow c (OZ c ks + OX c l)) -∗ WP c p Q) -∗ WP c (sendX c k p) Q) := by
  unfold sendX
  iintro ⟨#HP, ⟨Hc, Hat, ⟨%fs, Hs⟩, ⟨%fo, Ho⟩, Ht1, Ht2⟩, HO⟩ Hk
  iapply (wp_wait_dma m K c (some (0, k)) (src := aCk c k) (dst := fCk k) rfl (OZ c ks + OX c (k :: l))
      (by rw [lv_in]; exact above_add (above_OZ (by decide) c ks) (above_OX (by decide) c (k :: l)))) $$ [Hc Hat HO]
  · isplitr; · iexact HP
    isplitl [Hc]; · iexact Hc
    isplitl [Hat] <;> iassumption
  unfold dPay ow
  iintro ⟨⟨%W, HO⟩, Hz, Hf, Ha⟩
  iapply (wp_load 𝒱₀ (c : Thread nD τ) none Set.univ (m := fM) (setOn_f k)) $$ Hf; iintro Hf
  iapply (wp_load 𝒱₀ (c : Thread nD τ) none Set.univ (m := sM) (setOn_s k)) $$ Hs; iintro Hs
  iapply (wp_store 𝒱₀ (c : Thread nD τ) none Set.univ (m := sM) (r := ckR k) (Mk := Finset.univ) (access_s k)) $$ Hs; iintro Hs
  ihave Hs' := (Entails.of_eq ((pointsTo_congr (stored_sCk m c k fs)).trans (sPts_eq c k (sndF m c)))) $$ Hs
  ihave Ho' := (Entails.of_eq (oPts_x c k fo)) $$ Ho
  iapply (Rounds.wp_send_pointsTo 𝒱₀ ER (Rd m) (c : Thread nD τ) none (c' := (xDev c : Thread nD τ)) (κ₁ := K (c, some (some (1, k)))) (κ₂ := K (xDev c, some (some (2, k))))
      (src := sCk k) (dst := oX c k) (sS := csem (some (some (1, k)))) (sem := csem (some (some (2, k)))) (fs := sndF m c) (q := fullShare)
      (r₁ := 0) (r₂ := 0) (d₁ := false) (d₂ := false) (fd := fo)
      (by rw [duties_dma]; exact Finset.mem_singleton_self _) (by rw [duties_dma]; exact Finset.mem_singleton_self _)
      () () nB (amount_s c k) (amount_dma m c _ false) (amount_dma m (xDev c) _ false) (OZ c ks + OX c l) (add_assoc _ _ _).symm (W := W)
      (pay_xs m c k) (pay_xr m c k fo)) $$ [Hs' Ho' HO Ht1 Ht2]
  · isplitr; · iapply (ctx_inv m K c (some (some (1, k)))); iexact HP
    isplitr; · iapply (ctx_inv m K (xDev c) (some (some (2, k)))); iexact HP
    isplitl [Hs']; · iexact Hs'
    isplitl [Ho']; · iexact Ho'
    isplitl [HO]; · iexact HO
    isplitl [Ht1]; · iexact Ht1
    isplitr; · iapply (ctx_reached m K c (some (some (1, k)))); iexact HP
    isplitl [Ht2]; · iexact Ht2
    iapply (ctx_reached m K (xDev c) (some (some (2, k)))); iexact HP
  iintro ⟨Hc, HO⟩
  iapply Hk
  isplitr [HO]
  · isplitl [Hz]; · iexact Hz
    isplitl [Hf]; · iexact Hf
    isplitl [Ha]; · iexact Ha
    iexact Hc
  · iexists W; iexact HO

/-! ### Forwarding along z -/

/-- Waiting for a chunk from the x neighbour and forwarding it along z. -/
theorem wp_sendZ (k : Fin 8) (l : List (Fin 8)) (p : Pg F) (Q : PUnit → sProp 𝕄) :
    iprop(ctx m K ∗ (crd c (some (2, k)) ∗ pos c (some (some (2, k))) ∗ (∃ f, oPts (zDev c) (some (true, k)) f)
          ∗ tok c (some (3, k)) ∗ tok (zDev c) (some (4, k))) ∗ ow c (OZ c (k :: l)))
      ⊢ iprop((((zer c (some (some (2, k))) ∗ crd c (some (3, k))) ∗ ow c (OZ c l)) -∗ WP c p Q) -∗ WP c (sendZ c k p) Q) := by
  unfold sendZ
  iintro ⟨#HP, ⟨Hc, Hat, ⟨%fo, Ho⟩, Ht1, Ht2⟩, HO⟩ Hk
  iapply (wp_wait_dma m K c (some (2, k)) (src := sCk k) (dst := oX c k) rfl (OZ c (k :: l))
      (by rw [lv_xr]; exact above_OZ (by decide) c (k :: l))) $$ [Hc Hat HO]
  · isplitr; · iexact HP
    isplitl [Hc]; · iexact Hc
    isplitl [Hat] <;> iassumption
  unfold dPay ow
  iintro ⟨⟨%W, HO⟩, Hz, Hr⟩
  ihave Hr' := (Entails.of_eq (oPts_own c k (outF m c))) $$ Hr
  ihave Ho' := (Entails.of_eq (oPts_z c k fo)) $$ Ho
  iapply (Rounds.wp_send_pointsTo 𝒱₀ ER (Rd m) (c : Thread nD τ) none (c' := (zDev c : Thread nD τ)) (κ₁ := K (c, some (some (3, k)))) (κ₂ := K (zDev c, some (some (4, k))))
      (src := oZ c k) (dst := oZ c k) (sS := csem (some (some (3, k)))) (sem := csem (some (some (4, k)))) (fs := outF m c) (q := fullShare)
      (r₁ := 0) (r₂ := 0) (d₁ := false) (d₂ := false) (fd := fo)
      (by rw [duties_dma]; exact Finset.mem_singleton_self _) (by rw [duties_dma]; exact Finset.mem_singleton_self _)
      () () nB (amount_z c k) (amount_dma m c _ false) (amount_dma m (zDev c) _ false) (OZ c l) rfl (W := W)
      (pay_zs m c k) (pay_zr m c k fo)) $$ [Hr' Ho' HO Ht1 Ht2]
  · isplitr; · iapply (ctx_inv m K c (some (some (3, k)))); iexact HP
    isplitr; · iapply (ctx_inv m K (zDev c) (some (some (4, k)))); iexact HP
    isplitl [Hr']; · iexact Hr'
    isplitl [Ho']; · iexact Ho'
    isplitl [HO]; · iexact HO
    isplitl [Ht1]; · iexact Ht1
    isplitr; · iapply (ctx_reached m K c (some (some (3, k)))); iexact HP
    isplitl [Ht2]; · iexact Ht2
    iapply (ctx_reached m K (zDev c) (some (some (4, k)))); iexact HP
  iintro ⟨Hc, HO⟩
  iapply Hk
  isplitr [HO]
  · isplitl [Hz]; · iexact Hz
    iexact Hc
  · iexists W; iexact HO

/-! ### The own columns -/

/-- The zero offset is zero on each axis. -/
theorem hz : (![0, 0] : Fin 2 → Nat) = fun _ => 0 := funext fun a => by fin_cases a <;> rfl
/-- The load of the own half of the result stays in its region. -/
theorem setOn_own : oM.view.setOn (ownR c).toLoadRect.set ⊆ oReg c none := by
  rw [← mem_ownR]
  intro i hi
  obtain ⟨j, hj, rfl⟩ := Finset.mem_map.mp hi
  exact hj
/-- The store of the own half of the result stays in its region. -/
theorem access_own : (oM.access (ownR c)).setOn Finset.univ ⊆ oReg c none := by
  rw [← mem_ownR, View.setOn_univ]
  exact (View.set_slice_whole _ _).subset
/-- The load of the own half's buffer reads all of it. -/
theorem read_own : wM.view.readAt (Elt F) (Rect.unit (s := S512x512) ![0, 0] S512x512.size inb_S512x512_S512x512_0_0).toLoadRect (ownF m c)
    = ownF m c := Memref.readAt_unit_zero (Elt F) cc0_scratch1 hz _ _

/-- Waiting for the own columns, casting them and storing them in the result. -/
theorem wp_own (p : Pg F) (Q : PUnit → sProp 𝕄) :
    iprop(ctx m K ∗ crd c none ∗ pos c (some none) ∗ (∃ f, oPts c none f) ∗ ow c 0)
      ⊢ iprop(((zer c (some none) ∗ wPts c (ownF m c) ∗ aPts m c (some none) ∗ oPts c none (outF m c) ∗ ow c 0) -∗ WP c p Q)
          -∗ WP c (ownStep c p) Q) := by
  unfold ownStep
  iintro ⟨#HP, Hc, Hat, ⟨%fo, Ho⟩, HO⟩ Hk
  iapply (wp_wait_dma m K c none (src := aOwn c) (dst := wM) rfl 0 (above_zero _)) $$ [Hc Hat HO]
  · isplitr; · iexact HP
    isplitl [Hc]; · iexact Hc
    isplitl [Hat] <;> iassumption
  unfold dPay
  iintro ⟨HO, Hz, Hw, Ha⟩
  iapply (wp_load 𝒱₀ (c : Thread nD τ) none Set.univ (m := wM) (Finset.subset_univ _)) $$ Hw; iintro Hw
  rw [read_own]
  iapply (wp_load 𝒱₀ (c : Thread nD τ) none Set.univ (m := oM) (setOn_own c)) $$ Ho; iintro Ho
  iapply (wp_store 𝒱₀ (c : Thread nD τ) none Set.univ (m := oM) (r := ownR c) (Mk := Finset.univ) (access_own c)) $$ Ho; iintro Ho
  ihave Ho' := (Entails.of_eq (pointsTo_congr (stored_own m c fo))) $$ Ho
  iapply Hk
  isplitl [Hz]; · iexact Hz
  isplitl [Hw]; · iexact Hw
  isplitl [Ha]; · iexact Ha
  isplitl [Ho']; · iexact Ho'
  iexact HO

/-! ### The last waits -/

/-- Waiting for the departure of a chunk along x. -/
theorem wp_waitXs (k : Fin 8) (p : Pg F) (Q : PUnit → sProp 𝕄) :
    iprop(ctx m K ∗ (crd c (some (1, k)) ∗ pos c (some (some (1, k)))) ∗ ow c 0)
      ⊢ iprop((((zer c (some (some (1, k))) ∗ sPts c k (sndF m c)) ∗ ow c 0) -∗ WP c p Q) -∗ WP c (waitXs c k p) Q) := by
  unfold waitXs
  iintro ⟨#HP, ⟨Hc, Hat⟩, HO⟩ Hk
  iapply (wp_wait_dma m K c (some (1, k)) (src := oX c k) (dst := sCk k) rfl 0 (above_zero _)) $$ [Hc Hat HO]
  · isplitr; · iexact HP
    isplitl [Hc]; · iexact Hc
    isplitl [Hat] <;> iassumption
  unfold dPay
  iintro ⟨HO, Hz, Hs⟩
  iapply Hk
  isplitr [HO]
  · isplitl [Hz] <;> iassumption
  · iexact HO

/-- Waiting for the departure of a chunk along z and for the arrival of one. -/
theorem wp_waitZ (k : Fin 8) (p : Pg F) (Q : PUnit → sProp 𝕄) :
    iprop(ctx m K ∗ (crd c (some (3, k)) ∗ pos c (some (some (3, k))) ∗ crd c (some (4, k)) ∗ pos c (some (some (4, k)))) ∗ ow c 0)
      ⊢ iprop((((zer c (some (some (3, k))) ∗ zer c (some (some (4, k))) ∗ oPts c (some (false, k)) (outF m c)
          ∗ oPts c (some (true, k)) (outF m c)) ∗ ow c 0) -∗ WP c p Q) -∗ WP c (waitZ c k p) Q) := by
  unfold waitZ
  iintro ⟨#HP, ⟨Hc, Hat, Hc', Hat'⟩, HO⟩ Hk
  iapply (wp_wait_dma m K c (some (3, k)) (src := oZ c k) (dst := oZ c k) rfl 0 (above_zero _)) $$ [Hc Hat HO]
  · isplitr; · iexact HP
    isplitl [Hc]; · iexact Hc
    isplitl [Hat] <;> iassumption
  iintro ⟨HO, Hz, Hs⟩
  iapply (wp_wait_dma m K c (some (4, k)) (src := oZ c k) (dst := oZ c k) rfl 0 (above_zero _)) $$ [Hc' Hat' HO]
  · isplitr; · iexact HP
    isplitl [Hc']; · iexact Hc'
    isplitl [Hat'] <;> iassumption
  unfold dPay
  iintro ⟨HO, Hz', Hs'⟩
  iapply Hk
  isplitr [HO]
  · isplitl [Hz]; · iexact Hz
    isplitl [Hz']; · iexact Hz'
    isplitl [Hs] <;> iassumption
  · iexact HO

end

end Cert.KernelIdeal.Steps

end
-- ==== Proof.KernelIdeal.Body.lean ====
/-
# The body

What a device's body starts from and what it ends with, and the body's run between the two: the buffers are split into
their parts, the stretches follow one another, and the parts are put together again.
-/
module

public import proofs.«01_k».proof.Proof.KernelIdeal.Step

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

/-! ## Whole buffers and their parts -/

section

variable (c : Dev nD)

/-- The whole argument block of device `c`, as it was at the start. -/
abbrev aAll (c : Dev nD) : sProp 𝕄 := ((c : Thread nD τ).loc main_arg0) ↦{fullShare} (m ((c : Thread nD τ).loc main_arg0))
/-- The whole buffer before the cast. -/
abbrev fAll (c : Dev nD) (f : S256x512.Idx → Elt F .f32) : sProp 𝕄 := ((c : Thread nD τ).loc cc0_scratch0) ↦{fullShare} f
/-- The whole sent buffer. -/
abbrev sAll (c : Dev nD) (f : S256x512.Idx → Elt F .bf16) : sProp 𝕄 := ((c : Thread nD τ).loc cc0_scratch2) ↦{fullShare} f
/-- The whole result. -/
abbrev oAll (c : Dev nD) (f : S1024x512.Idx → Elt F .bf16) : sProp 𝕄 := ((c : Thread nD τ).loc cc0_stg0_0) ↦{fullShare} f

/-- The buffer before the cast is its eight chunks. -/
theorem fAll_parts (f : S256x512.Idx → Elt F .f32) : fAll c f = bigSepL ks fun k => fPts c k f := by
  rw [← bigSep_ks]
  exact pointsTo_parts (ℓ := (c : Thread nD τ).loc cc0_scratch0) fCls f
/-- The sent buffer is its eight chunks. -/
theorem sAll_parts (f : S256x512.Idx → Elt F .bf16) : sAll c f = bigSepL ks fun k => sPts c k f := by
  rw [← bigSep_ks]
  exact pointsTo_parts (ℓ := (c : Thread nD τ).loc cc0_scratch2) fCls f
/-- The result's staging buffer is the half the device computes itself and the sixteen chunks it receives. -/
theorem oAll_parts (f : S1024x512.Idx → Elt F .bf16) :
    oAll c f = iprop(oPts c none f ∗ bigSepL ks (fun k => oPts c (some (false, k)) f) ∗ bigSepL ks fun k => oPts c (some (true, k)) f) := by
  refine (pointsTo_parts (ℓ := (c : Thread nD τ).loc cc0_stg0_0) (oCls c) f).trans ?_
  rw [bigSep_univ_eq_bigSepL (none :: (ks.map (fun k => some (false, k)) ++ ks.map fun k => some (true, k))) (by decide) (by decide),
    bigSepL_cons', bigSepL_append, bigSepL_map, bigSepL_map]
  rfl
/-- The argument is what no copy reads, the half copied for the device itself and the eight chunks it sends. -/
theorem aAll_parts :
    aAll m c = iprop(aPts m c none ∗ aPts m c (some none) ∗ bigSepL ks fun k => aPts m c (some (some k))) := by
  refine (pointsTo_parts (ℓ := (c : Thread nD τ).loc main_arg0) (aCls c) _).trans ?_
  rw [bigSep_univ_eq_bigSepL (none :: some none :: ks.map fun k => some (some k)) (by decide) (by decide),
    bigSepL_cons', bigSepL_cons', bigSepL_map]
  rfl

/-- The buffer before the cast gives its chunks at some contents. -/
theorem some_f (f : S256x512.Idx → Elt F .f32) : fAll c f ⊢ bigSepL ks fun k => iprop(∃ f, fPts c k f) := by
  rw [fAll_parts]
  exact bigSepL_mono fun k _ => by iintro H; iexists f; iexact H
/-- The sent buffer gives its chunks at some contents. -/
theorem some_s (f : S256x512.Idx → Elt F .bf16) : sAll c f ⊢ bigSepL ks fun k => iprop(∃ f, sPts c k f) := by
  rw [sAll_parts]
  exact bigSepL_mono fun k _ => by iintro H; iexists f; iexact H
/-- The rows a device gives its x neighbour, its z neighbour, and those it keeps. -/
theorem some_o (f : S1024x512.Idx → Elt F .bf16) :
    oAll c f ⊢ iprop((∃ f, oPts c none f) ∗ barX (xDev c) ∗ barZ (zDev c)) := by
  rw [oAll_parts]
  unfold barX barZ
  rw [xDev_xDev, zDev_zDev, bigSep_ks, bigSep_ks]
  iintro ⟨H, HX, HZ⟩
  isplitl [H]
  · iexists f; iexact H
  isplitl [HX]
  · iapply (show (bigSepL ks fun k => oPts c (some (false, k)) f) ⊢ (bigSepL ks fun k => iprop(∃ f, oPts c (some (false, k)) f) : sProp 𝕄)
      from bigSepL_mono fun k _ => by iintro H; iexists f; iexact H)
    iexact HX
  · iapply (show (bigSepL ks fun k => oPts c (some (true, k)) f) ⊢ (bigSepL ks fun k => iprop(∃ f, oPts c (some (true, k)) f) : sProp 𝕄)
      from bigSepL_mono fun k _ => by iintro H; iexists f; iexact H)
    iexact HZ

/-! ## The tokens a device pays with -/

/-- A token: the barrier's from the x neighbour, then the one of each cell (the barrier's being from the z neighbour). -/
abbrev Tn : Type := Option Cn
/-- The cell of a token. -/
def tcn : Tn → Cn
  | none => none
  | some n => n
/-- The duty of a token. -/
def tdu : Tn → Bool
  | none => true
  | some _ => false
/-- Whose cell device `c` pays with a token: a neighbour's for the barrier and the arrivals, its own otherwise. -/
def tgt (c : Dev nD) : Tn → Dev nD
  | none => xDev c
  | some none => zDev c
  | some (some (some (2, _))) => xDev c
  | some (some (some (4, _))) => zDev c
  | some (some _) => c

/-- A token of device `c`'s own cells. -/
abbrev tokAt (c : Dev nD) (t : Tn) : sProp 𝕄 := dutyTok ER (cell c (tcn t)) 0 (tdu t)
/-- The tokens device `c` pays with. -/
def payToks (c : Dev nD) : sProp 𝕄 := bigSep Finset.univ fun t : Tn => tokAt (tgt c t) t

/-- A conjunction over the tokens is the x neighbour's barrier token's and those named after a cell. -/
theorem bigSep_Tn (Φ : Tn → sProp 𝕄) : bigSep Finset.univ Φ = iprop(Φ none ∗ bigSep Finset.univ fun n : Cn => Φ (some n)) := by
  rw [bigSep_univ_eq_bigSepL (none :: cnL.map some) (by decide +kernel) (by decide +kernel), bigSepL_cons', bigSepL_map,
    bigSep_univ_eq_bigSepL cnL (by decide +kernel) (by decide +kernel)]

/-- The tokens a device pays with, listed. -/
theorem payToks_eq : payToks c = (iprop(dutyTok ER (cell (xDev c) none) 0 true
    ∗ (dutyTok ER (cell (zDev c) none) 0 false ∗ tok c none) ∗ bigSepL ks (fun k => tok c (some (0, k)))
    ∗ bigSepL ks (fun k => tok c (some (1, k))) ∗ bigSepL ks (fun k => tok (xDev c) (some (2, k)))
    ∗ bigSepL ks (fun k => tok c (some (3, k))) ∗ bigSepL ks (fun k => tok (zDev c) (some (4, k)))) : sProp 𝕄) := by
  unfold payToks
  rw [bigSep_Tn, bigSep_Cn]
  rfl

/-! ## The body's run -/

variable (K : Dev nD × Cn → ℕ)

/-- What device `c` starts with: the schedule, its place before every round, the tokens it pays with, the credit of what
    its neighbours owe it, its buffers, and what it owes them. -/
def bodyPre : sProp 𝕄 :=
  iprop(ctx m K ∗ bigSep Finset.univ (fun n => pos c n) ∗ payToks c
    ∗ (cred (tallyAt (cell c none) () 2) ∗ bigSepL ks (fun k => crd c (some (2, k))) ∗ bigSepL ks fun k => crd c (some (4, k)))
    ∗ (∃ f, fAll c f) ∗ (∃ f, wPts c f) ∗ (∃ f, sAll c f) ∗ aAll m c ∗ (∃ f, oAll c f) ∗ ow c (O₀ c))

/-- What it ends with: every counter at zero, its buffers, the argument as it was, the result, and nothing owed. -/
def bodyPost : sProp 𝕄 :=
  iprop(bigSep Finset.univ (fun n => zer c n)
    ∗ (∃ f, fAll c f) ∗ (∃ f, wPts c f) ∗ (∃ f, sAll c f) ∗ aAll m c ∗ oAll c (outF m c) ∗ ow c 0)

set_option maxHeartbeats 1600000 in
/-- The steps of a device run from what it starts with to what it ends with. -/
theorem sound_steps (Q : PUnit → sProp 𝕄) : iprop(bodyPre m c K ∗ (bodyPost m c -∗ Q ⟨⟩)) ⊢ WP c (steps c) Q := by
  have hIn := fun p => wp_seqL c (startIn c) (ctx m K) _ _ (fun _ => iprop(emp)) Q (fun k _ p => wp_startIn m K c k p Q) ks p
  have hX := fun p => wp_seqL c (sendX c) (ctx m K) _ _ (fun l => ow c (OZ c ks + OX c l)) Q (fun k l p => wp_sendX m K c k l p Q) ks p
  have hZ := fun p => wp_seqL c (sendZ c) (ctx m K) _ _ (fun l => ow c (OZ c l)) Q (fun k l p => wp_sendZ m K c k l p Q) ks p
  have hXs := fun p => wp_seqL c (waitXs c) (ctx m K) _ _ (fun _ => ow c 0) Q (fun k _ p => wp_waitXs m K c k p Q) ks p
  have hZs := fun p => wp_seqL c (waitZ c) (ctx m K) _ _ (fun _ => ow c 0) Q (fun k _ p => wp_waitZ m K c k p Q) ks p
  simp only [bigSepL_sep] at hIn hX hZ hXs hZs
  unfold bodyPre steps
  rw [bigSep_Cn, payToks_eq, aAll_parts]
  iintro ⟨⟨#HP, ⟨⟨HpB, HpW⟩, Hp0, Hp1, Hp2, Hp3, Hp4⟩, ⟨HtX, ⟨HtZ, HtW⟩, Ht0, Ht1, Ht2, Ht3, Ht4⟩, ⟨HcB, Hc2, Hc4⟩,
    ⟨%f, Hf⟩, Hw, ⟨%s, Hs⟩, ⟨HaR, HaW, HaC⟩, ⟨%o, Ho⟩, HO⟩, Hk⟩
  ihave Hf := (some_f c f) $$ Hf
  ihave Hs := (some_s c s) $$ Hs
  ihave Ho := (some_o c o) $$ Ho
  icases Ho with ⟨Ho, HbX, HbZ⟩
  iapply (wp_greet m K c) $$ [HtX HtZ HbX HbZ HO]
  · isplitr; · iexact HP
    isplitl [HtX]; · iexact HtX
    isplitl [HtZ]; · iexact HtZ
    isplitl [HbX]; · iexact HbX
    isplitl [HbZ]; · iexact HbZ
    iexact HO
  iintro HO
  iapply (hIn _) $$ [Hf HaC Ht0]
  · isplitr; · iexact HP
    isplitl
    · isplitl [Hf]; · iexact Hf
      isplitl [HaC]; · iexact HaC
      iexact Ht0
    · iempintro
  iintro ⟨Hc0, -⟩
  iapply (wp_meet m K c) $$ [Hw HaW HtW HcB HpB HO]
  · isplitr; · iexact HP
    isplitl [Hw]; · iexact Hw
    isplitl [HaW]; · iexact HaW
    isplitl [HtW]; · iexact HtW
    isplitl [HcB]; · iexact HcB
    isplitl [HpB]; · iexact HpB
    iexact HO
  unfold barX barZ
  rw [bigSep_ks, bigSep_ks]
  iintro ⟨HcW, HzB, HbX, HbZ, HO⟩
  iapply (hX _) $$ [Hc0 Hp0 Hs HbX Ht1 Ht2 HO]
  · isplitr; · iexact HP
    isplitr [HO]
    · isplitl [Hc0]; · iexact Hc0
      isplitl [Hp0]; · iexact Hp0
      isplitl [Hs]; · iexact Hs
      isplitl [HbX]; · iexact HbX
      isplitl [Ht1]; · iexact Ht1
      iexact Ht2
    · iexact HO
  iintro ⟨⟨Hz0, Hf, HaC, Hc1⟩, HO⟩
  ihave HO := (Entails.of_eq (show ow c (OZ c ks + OX c []) = (ow c (OZ c ks) : sProp 𝕄) from congrArg (ow c) (add_zero _))) $$ HO
  iapply (hZ _) $$ [Hc2 Hp2 HbZ Ht3 Ht4 HO]
  · isplitr; · iexact HP
    isplitr [HO]
    · isplitl [Hc2]; · iexact Hc2
      isplitl [Hp2]; · iexact Hp2
      isplitl [HbZ]; · iexact HbZ
      isplitl [Ht3]; · iexact Ht3
      iexact Ht4
    · iexact HO
  iintro ⟨⟨Hz2, Hc3⟩, HO⟩
  iapply (wp_own m K c) $$ [HcW HpW Ho HO]
  · isplitr; · iexact HP
    isplitl [HcW]; · iexact HcW
    isplitl [HpW]; · iexact HpW
    isplitl [Ho]; · iexact Ho
    iexact HO
  iintro ⟨HzW, Hw, HaW, Ho, HO⟩
  iapply (hXs _) $$ [Hc1 Hp1 HO]
  · isplitr; · iexact HP
    isplitr [HO]
    · isplitl [Hc1] <;> iassumption
    · iexact HO
  iintro ⟨⟨Hz1, Hs⟩, HO⟩
  iapply (hZs _) $$ [Hc3 Hp3 Hc4 Hp4 HO]
  · isplitr; · iexact HP
    isplitr [HO]
    · isplitl [Hc3]; · iexact Hc3
      isplitl [Hp3]; · iexact Hp3
      isplitl [Hc4] <;> iassumption
    · iexact HO
  iintro ⟨⟨Hz3, Hz4, HoX, HoZ⟩, HO⟩
  unfold WP; rw [wp_ret]; imodintro
  iapply Hk
  unfold bodyPost
  rw [bigSep_Cn, aAll_parts, oAll_parts]
  isplitl [HzB HzW Hz0 Hz1 Hz2 Hz3 Hz4]
  · isplitl [HzB HzW]
    · isplitl [HzB] <;> iassumption
    isplitl [Hz0]; · iexact Hz0
    isplitl [Hz1]; · iexact Hz1
    isplitl [Hz2]; · iexact Hz2
    isplitl [Hz3] <;> iassumption
  isplitl [Hf]
  · iexists (f32F m c); rw [fAll_parts]; iexact Hf
  isplitl [Hw]
  · iexists (ownF m c); iexact Hw
  isplitl [Hs]
  · iexists (sndF m c); rw [sAll_parts]; iexact Hs
  isplitl [HaR HaW HaC]
  · isplitl [HaR]; · iexact HaR
    isplitl [HaW] <;> iassumption
  isplitl [Ho HoX HoZ]
  · isplitl [Ho]; · iexact Ho
    isplitl [HoX] <;> iassumption
  iexact HO

end

/-! ## The pipeline's data -/

/-- What the launch deals device `c`: the schedule's records, its places and the tokens it pays with. -/
def G' (c : Dev nD) : sProp 𝕄 := iprop(∃ K, recs m K ∗ bigSep Finset.univ (fun n => pos c n) ∗ payToks c)

/-- What device `c`'s body starts from, besides its scratch buffers. -/
def start (c : Dev nD) : sProp 𝕄 :=
  iprop(G' m c ∗ levAts L lv
    ∗ (cred (tallyAt (cell c none) () 2) ∗ bigSepL ks (fun k => crd c (some (2, k))) ∗ bigSepL ks fun k => crd c (some (4, k)))
    ∗ aAll m c)

/-- Before the body. -/
def Φ₀ (c : Dev nD) : sProp 𝕄 := iprop(start m c ∗ (∃ f, fAll c f) ∗ (∃ f, wPts c f) ∗ ∃ f, sAll c f)
/-- After the body. -/
def Φ₁ (c : Dev nD) : sProp 𝕄 :=
  iprop(bigSep Finset.univ (fun n => zer c n) ∗ ((∃ f, fAll c f) ∗ (∃ f, wPts c f) ∗ ∃ f, sAll c f) ∗ aAll m c)

/-- The one window, the result's, holds the result after the one point. -/
def dats (_ : Fin 1) (c : Dev nD) : Dat τ (Elt F) Unit ℕ UU ℕ cfg0 c where
  A w := m ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The one point. -/
theorem cfg0_N : cfg0.N = 1 := N_0
/-- Its index. -/
def t₀ : Fin cfg0.N := ⟨0, by rw [cfg0_N]; decide⟩
/-- There is no other point. -/
theorem fin_N (t : Fin cfg0.N) : t = t₀ := by
  obtain ⟨t, ht⟩ := t
  have := cfg0_N
  exact Fin.ext (by simp only [t₀]; omega)

/-- Owning a whole buffer at some contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A buffer with the value it has. -/
abbrev stg (c : Dev nD) (X : S1024x512.Idx → Elt F .bf16) : sProp 𝕄 :=
  iprop(∃ f : Buf (Elt F) ((c : Thread nD τ).loc cc0_stg0_0), ⌜f = X⌝ ∗ (((c : Thread nD τ).loc cc0_stg0_0) ↦{fullShare} f))

/-- What the pipeline hands the body. -/
def pre (c : Dev nD) : sProp 𝕄 :=
  iprop(Φ₀ m c ∗ (dats m 0 c).owesAt () t₀.castSucc ∗ (∃ d, stg c ((dats m 0 c).before (0 : Fin 1) t₀ d)))
/-- What the body hands back. -/
def post (c : Dev nD) : sProp 𝕄 :=
  iprop(Φ₁ m c ∗ (dats m 0 c).owesAt () t₀.succ ∗ stg c (outF m c))

/-- The body runs from what the pipeline hands it to what it hands back. -/
theorem sound_body (c : Dev nD) :
    pre m c ⊢ WP c (cc0_body (F := F) (Memref.whole main_arg0) (Memref.isWhole_whole _) oM (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      cc0_scratch7 cc0_scratch8) (fun _ => post m c) := by
  rw [body_eq]
  unfold WP
  rw [wp_deviceId]
  unfold pre Φ₀ start G' Dat.owesAt Pipeline.owesWithin
  rw [show (dats m 0 c).owed t₀.castSucc = O₀ c from rfl]
  iintro ⟨⟨⟨⟨%K, #HR, Hpos, Htok⟩, #HL, Hcr, Ha⟩, Hf, Hw, Hs⟩, ⟨%W, %hW, HO⟩, ⟨%d, %g, %hg, Ho⟩⟩
  iapply (sound_steps m c K (fun _ => post m c))
  isplitr []
  · unfold bodyPre ctx ow
    isplitr
    · isplitr; · iexact HR
      iexact HL
    isplitl [Hpos]; · iexact Hpos
    isplitl [Htok]; · iexact Htok
    isplitl [Hcr]; · iexact Hcr
    isplitl [Hf]; · iexact Hf
    isplitl [Hw]; · iexact Hw
    isplitl [Hs]; · iexact Hs
    isplitl [Ha]; · iexact Ha
    isplitl [Ho]; · iexists g; iexact Ho
    iexists W; iexact HO
  · unfold bodyPost post Φ₁ ow Dat.owesAt Pipeline.owesWithin
    rw [show (dats m 0 c).owed t₀.succ = 0 from rfl]
    iintro ⟨Hz, Hf, Hw, Hs, Ha, Ho, %W', HO⟩
    isplitl [Hz Hf Hw Hs Ha]
    · isplitl [Hz]; · iexact Hz
      isplitl [Hf Hw Hs]
      · isplitl [Hf]; · iexact Hf
        isplitl [Hw] <;> iassumption
      iexact Ha
    isplitl [HO]
    · iexists W'
      isplitr; · ipureintro; exact fun _ _ => Or.inl trivial
      iexact HO
    · iexists _
      isplitr; · (ipureintro; rfl)
      iexact Ho

set_option maxRecDepth 16384 in
/-- The pipeline's obligation on the body of device `c`. -/
theorem body_obligation (c : Dev nD) : BodyObligation (dats (F := F) m 0 c) (defs₀ (F := F)) 𝒱₀ () Set.univ := fun t => by
  rw [fin_N t]
  rw [show (bigSep (Finset.univ : Finset (Fin cfg0.W)) : _ → sProp 𝕄) = fun Φ => Φ (0 : Fin 1) from funext fun Φ => bigSep_W0 Φ]
  simp only [owns_buf]
  show pre m c ⊢ WP c (cc0_body (F := F) (Memref.whole main_arg0) (Memref.isWhole_whole _) oM (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      cc0_scratch7 cc0_scratch8) (fun _ => post m c)
  exact sound_body m c

end Cert.KernelIdeal.Steps

end
-- ==== Proof.KernelIdeal.Launch.lean ====
/-
# The launch

The launch deals every device its buffers and counters at zero; from these the cells' invariants are made, the tokens are
dealt to the devices that pay with them, and the credit of what a device is owed is counted. The run of the whole mesh
follows: every execution terminates with every counter at zero, the arguments as they were and the results computed.
-/
module

public import proofs.«01_k».proof.Proof.KernelIdeal.Body
public import Idealize.ShloMosaic.Lib.Pipeline.CollectiveSegs
public import Idealize.ShloMosaic.Lib.Pipeline.ValueKit.Geometry

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The cells and tokens made -/

/-- The kernel's own semaphores: all DMA semaphores but the pipeline's. -/
abbrev osem : Dn → SemLoc sig := fun n => csem (some n)

/-- These semaphores are the scoped ones that are no window's. -/
theorem ownSemFacts : Pipeline.OwnSemFacts cfg0.spec osem := by decide +kernel

/-- The windows hold their arrays whole. -/
theorem share_eq (c : Dev nD) (w : Fin cfg0.W) : (dats m 0 c).share w = fullShare := by unfold Dat.share; split <;> rfl

/-- Every cell of every device. -/
def allCells : Finset (GSem nD τ sig) := Finset.univ.map ⟨fun p : Dev nD × Cn => cell p.1 p.2, cell_injective⟩

/-- A token is known by its cell and its payer's flag. -/
theorem tn_injective : ∀ t t' : Tn, tcn t = tcn t' → tdu t = tdu t' → t = t' := by
  intro t t' h h'
  cases t with
  | none => cases t' with
    | none => rfl
    | some _ => cases h'
  | some n => cases t' with
    | none => cases h'
    | some n' => exact congrArg some h

/-- Where a token belongs. -/
abbrev tokOf (p : Dev nD × Tn) : GSem nD τ sig × ℕ × Bool := (cell p.1 (tcn p.2), 0, tdu p.2)
/-- Different tokens belong to different places. -/
theorem tokOf_injective : Function.Injective tokOf := by
  rintro ⟨c, t⟩ ⟨c', t'⟩ h
  have h1 := cell_injective (a₁ := (c, tcn t)) (a₂ := (c', tcn t')) (congrArg Prod.fst h)
  have h2 : tdu t = tdu t' := congrArg (fun x : GSem nD τ sig × ℕ × Bool => x.2.2) h
  rw [Prod.mk.injEq] at h1
  rw [h1.1, tn_injective t t' h1.2 h2]
/-- Every token of every device. -/
def allToks : Finset (GSem nD τ sig × ℕ × Bool) := Finset.univ.map ⟨tokOf, tokOf_injective⟩

/-- The launch's element: the pipeline's copy and the kernel's. -/
def u₀ : UU :=
  (initOf (Pipeline.cells cfgs cellOf_inj) (Pipeline.launchToks cfgs cellOf_inj), initOf allCells allToks)

/-- What the launch's element deals device `c`: its cells' states, its places, and its cells' tokens. -/
def G (c : Dev nD) : sProp 𝕄 :=
  iprop((bigSep Finset.univ fun n : Cn => roundState ER (Rd m) (cell c n) 0)
    ∗ (bigSep Finset.univ fun n : Cn => iprop(pos c n ∗ reached ER (cell c n) 0))
    ∗ bigSep Finset.univ fun t : Tn => tokAt c t)

/-- The launch's element deals every device its part. -/
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun n : Cn => Φ (cell c n) := by
    unfold allCells; rw [bigSep_map, bigSep_univ_prod]; rfl
  have hT : bigSep allToks (fun x => (dutyTok ER x.1 x.2.1 x.2.2 : sProp 𝕄))
      = bigSep Finset.univ fun c : Dev nD => bigSep Finset.univ fun t : Tn => tokAt c t := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- A conjunction over the cells' names is the barrier's and the DMA semaphores'. -/
theorem bigSep_bar (Φ : Cn → sProp 𝕄) : bigSep Finset.univ Φ = iprop(Φ none ∗ bigSep Finset.univ fun n : Dn => Φ (some n)) := by
  rw [bigSep_univ_at Φ none]
  congr 1

/-- The one semaphore that outlives the kernel is the barrier's. -/
theorem unscopedSems0_eq (c : Dev nD) : (unscopedSems0 c : sProp 𝕄) = zer c none := by
  unfold unscopedSems0; rw [bigSep_eq_bigSepL_of_eq [SemLoc.reg barS] (by decide) (by decide)]; rfl

/-- A device's counters at zero are its cells' counters at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun n : Cn => zer c n : sProp 𝕄) := by
  rw [unscopedSems0_eq, bigSep_bar]
  rfl

/-! ## The global step -/

/-- One device's cells' invariants, made from its counters and its cells' states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n => iprop(∃ κ : ℕ, cellInv ER (Rd m) κ (cell c n)))
          ∗ (bigSep Finset.univ fun n => iprop(pos c n ∗ reached ER (cell c n) 0)) ∗ bigSep Finset.univ fun t : Tn => tokAt c t) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun n : Cn => zer c n) ∗ bigSep Finset.univ fun n : Cn => roundState ER (Rd m) (cell c n) 0)
      ⊢ (|={Set.univ}=> bigSep Finset.univ fun n => iprop(∃ κ : ℕ, cellInv ER (Rd m) κ (cell c n)) : sProp 𝕄) from by
        rw [← bigSep_sep']
        exact (bigSep_mono fun n _ => (Rounds.body_intro ER (Rd m) (cell c n)).trans inv_alloc).trans (bigSep_fupd _ _)) $$ [Hv Hst] with Hinv
  · isplitl [Hv] <;> iassumption
  imodintro
  isplitl [Hinv]; · iexact Hinv
  isplitl [Hat]; · iexact Hat
  iexact Htok

/-- Swapping neighbours, as a permutation of the devices. -/
def xPerm : Dev nD ≃ Dev nD := ⟨xDev, xDev, xDev_xDev, xDev_xDev⟩
/-- Swapping neighbours along z, as a permutation of the devices. -/
def zPerm : Dev nD ≃ Dev nD := ⟨zDev, zDev, zDev_zDev, zDev_zDev⟩
/-- Whose cell is paid with a token, as a permutation of the devices. -/
def tgtPerm : Tn → (Dev nD ≃ Dev nD)
  | none => xPerm
  | some none => zPerm
  | some (some (some (2, _))) => xPerm
  | some (some (some (4, _))) => zPerm
  | some (some _) => Equiv.refl _
/-- The permutation gives the device whose cell is paid. -/
theorem tgtPerm_apply (c : Dev nD) (t : Tn) : tgtPerm t c = tgt c t := by
  rcases t with _ | _ | _ | ⟨i, k⟩
  · rfl
  · rfl
  · rfl
  · fin_cases i <;> rfl

/-- The tokens of all devices' cells are the tokens all devices pay with. -/
theorem toks_dealt : (bigSep Finset.univ fun c : Dev nD => bigSep Finset.univ fun t : Tn => (tokAt c t : sProp 𝕄))
    = bigSep Finset.univ fun c : Dev nD => payToks c := by
  unfold payToks
  rw [← bigSep_univ_prod (fun p : Dev nD × Tn => (tokAt p.1 p.2 : sProp 𝕄)), bigSep_univ_equiv (Equiv.prodCongrLeft tgtPerm),
    ← bigSep_univ_prod (fun p : Dev nD × Tn => (tokAt (tgt p.1 p.2) p.2 : sProp 𝕄))]
  exact bigSep_congr fun p _ => by rw [← tgtPerm_apply]; rfl

/-- Each of several things made with the same persistent knowledge. -/
theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices hold after the invariants are made, sorted by who uses it. -/
theorem regroup :
    (bigSep Finset.univ fun c : Dev nD => iprop((bigSep Finset.univ fun n => iprop(∃ κ : ℕ, cellInv ER (Rd m) κ (cell c n)))
          ∗ (bigSep Finset.univ fun n => iprop(pos c n ∗ reached ER (cell c n) 0)) ∗ bigSep Finset.univ fun t : Tn => tokAt c t) : sProp 𝕄)
      ⊢ bigSep Finset.univ (G' m) := by
  rw [bigSep_sep', bigSep_sep', ← bigSep_univ_prod (fun p : Dev nD × Cn => iprop(∃ κ : ℕ, cellInv ER (Rd m) κ (cell p.1 p.2))),
    bigSep_congr (s := Finset.univ) (fun (c : Dev nD) _ => bigSep_sep' Finset.univ (fun n : Cn => (pos c n : sProp 𝕄)) (fun n => reached ER (cell c n) 0)),
    bigSep_sep', ← bigSep_univ_prod (fun p : Dev nD × Cn => (reached ER (cell p.1 p.2) 0 : sProp 𝕄)), toks_dealt]
  iintro ⟨HI, ⟨Hat, #HR⟩, Htok⟩
  ihave HK := (BI.bigSep_exists_pi Finset.univ (fun (p : Dev nD × Cn) (κ : ℕ) => (cellInv ER (Rd m) κ (cell p.1 p.2) : sProp 𝕄))) $$ HI
  icases HK with ⟨%K, #HI⟩
  iapply (bigSep_pers (R := recs m K) (Φ := fun c : Dev nD => iprop((bigSep Finset.univ fun n => pos c n) ∗ payToks c)) (Ψ := G' m) fun c _ => by
    unfold G'
    iintro ⟨#H, Hp, Ht⟩
    iexists K
    isplitr; · iexact H
    isplitl [Hp] <;> iassumption)
  isplitr
  · unfold recs; isplitl; · iexact HI
    iexact HR
  · rw [bigSep_sep']
    isplitl [Hat] <;> iassumption

/-- The global step: from all devices' counters and what the launch deals, what every device's body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what a device is owed -/

/-- What all devices owe a cell when each owes `k` units to the cell `n'` of the device `σ` gives it. -/
theorem sum_tally (σ : Dev nD → Dev nD) (hσ : ∀ c, σ (σ c) = c) (n n' : Cn) (k : ℕ) (c : Dev nD) :
    (∑ d : Dev nD, tallyAt (cell (σ d) n') () k (cell c n) ()) = if n = n' then k else 0 := by
  rw [Finset.sum_congr rfl (g := fun d => if d = σ c then (if n = n' then k else 0) else 0) fun d _ => by
    rw [tallyAt_apply]
    by_cases hd : d = σ c
    · rw [if_pos hd, hd, hσ]
      by_cases hn : n = n'
      · rw [hn, if_pos ⟨rfl, rfl⟩, if_pos rfl]
      · rw [if_neg hn, if_neg fun h => hn (congrArg Prod.snd (cell_injective (a₁ := (c, n)) (a₂ := (c, n')) h.1))]
    · rw [if_neg hd, if_neg fun h => hd (by
        have h' : c = σ d := congrArg Prod.fst (cell_injective (a₁ := (c, n)) (a₂ := (σ d, n')) h.1)
        rw [h', hσ])]]
  rw [Finset.sum_ite_eq' Finset.univ (σ c) fun _ => _, if_pos (Finset.mem_univ _)]

/-- What the devices owe the cell `n` of each device. -/
def owedTo (n : Cn) : ℕ :=
  ((ks.map fun k => if n = some (some (4, k)) then nB else 0).sum + (ks.map fun k => if n = some (some (2, k)) then nB else 0).sum
    + if n = none then 1 else 0) + if n = none then 1 else 0

/-- What all devices owe a cell through the first hop. -/
theorem sum_OX (n : Cn) (c : Dev nD) : ∀ l : List (Fin 8),
    (∑ d : Dev nD, OX d l (cell c n) ()) = (l.map fun k => if n = some (some (2, k)) then nB else 0).sum
  | [] => Finset.sum_eq_zero fun _ _ => rfl
  | k :: l => by
    unfold OX
    simp only [Pi.add_apply, Finsupp.add_apply]
    rw [Finset.sum_add_distrib, sum_OX n c l, sum_tally xDev xDev_xDev, List.map_cons, List.sum_cons, Nat.add_comm]
/-- What all devices owe a cell through the second hop. -/
theorem sum_OZ (n : Cn) (c : Dev nD) : ∀ l : List (Fin 8),
    (∑ d : Dev nD, OZ d l (cell c n) ()) = (l.map fun k => if n = some (some (4, k)) then nB else 0).sum
  | [] => Finset.sum_eq_zero fun _ _ => rfl
  | k :: l => by
    unfold OZ
    simp only [Pi.add_apply, Finsupp.add_apply]
    rw [Finset.sum_add_distrib, sum_OZ n c l, sum_tally zDev zDev_zDev, List.map_cons, List.sum_cons, Nat.add_comm]

/-- The launch's credit at a cell is what the devices owe it. -/
theorem launch_cell (c : Dev nD) (n : Cn) :
    tallyOn (cell c n) (launchCredit (Pipeline.owing O₀) 0 (cell c n)) = (tallyAt (cell c n) () (owedTo n) : CellTallies nD τ sig Unit) := by
  unfold tallyAt; refine congrArg _ (Finsupp.ext fun u => ?_); cases u
  rw [Pipeline.launchCredit_owing, Finsupp.single_eq_same]
  unfold O₀ O₁ owedTo
  simp only [Pi.add_apply, Finsupp.add_apply]
  rw [Finset.sum_add_distrib, Finset.sum_add_distrib, Finset.sum_add_distrib, sum_OZ, sum_OX, sum_tally zDev zDev_zDev,
    sum_tally xDev xDev_xDev]

/-- The barrier is owed two units. -/
theorem owedTo_bar : owedTo none = 2 := by simp [owedTo, ks]
/-- The first hop's arrival `k` is owed one chunk. -/
theorem owedTo_xr (k : Fin 8) : owedTo (some (some (2, k))) = nB := by
  unfold owedTo ks; fin_cases k <;> simp [Prod.mk.injEq]
/-- The second hop's arrival `k` is owed one chunk. -/
theorem owedTo_zr (k : Fin 8) : owedTo (some (some (4, k))) = nB := by
  unfold owedTo ks; fin_cases k <;> simp [Prod.mk.injEq]

/-- Three of seven things are kept. -/
theorem keep3 (A B C D E G H : sProp 𝕄) : iprop((A ∗ B) ∗ C ∗ D ∗ E ∗ G ∗ H) ⊢ iprop(A ∗ E ∗ H) := by
  iintro ⟨⟨HA, -⟩, -, -, HE, -, HH⟩
  isplitl [HA]; · iexact HA
  isplitl [HE] <;> iassumption

/-- A device's launch credit: its barrier's two units and its arrivals'. -/
theorem creds (c : Dev nD) :
    (Pipeline.launchCred O₀ c : sProp 𝕄) ⊢ iprop(cred (tallyAt (cell c none) () 2)
      ∗ bigSepL ks (fun k => crd c (some (2, k))) ∗ bigSepL ks fun k => crd c (some (4, k))) := by
  unfold Pipeline.launchCred
  refine (BI.bigSep_subset (Finset.subset_univ (Finset.univ.map ⟨csem, csem_injective⟩))).trans ?_
  rw [bigSep_map]
  simp only [Function.Embedding.coeFn_mk]
  rw [bigSep_congr (s := Finset.univ) (fun n _ => congrArg cred (launch_cell c n)), bigSep_Cn, owedTo_bar]
  simp only [owedTo_xr, owedTo_zr]
  rw [show (fun k => cred (tallyAt (cell c (some (some (2, k)))) () nB) : Fin 8 → sProp 𝕄) = fun k => crd c (some (2, k)) from rfl,
    show (fun k => cred (tallyAt (cell c (some (some (4, k)))) () nB) : Fin 8 → sProp 𝕄) = fun k => crd c (some (4, k)) from rfl]
  exact keep3 _ _ _ _ _ _ _

/-! ## The launch's side conditions -/

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨Ha, Hlev, Hcr, -, HG⟩
  ihave Hc := (creds (F := F) c) $$ Hcr
  imodintro
  unfold start aAll
  isplitl
  · isplitl [HG]; · iexact HG
    isplitl [Hlev]; · iexact Hlev
    isplitl [Hc]; · iexact Hc
    iexact Ha
  · iempintro

/-- With the scratch buffers it is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀
  iintro ⟨Hs, -, Hr⟩
  isplitl [Hs]; · iexact Hs
  iexact Hr

/-- What is left after the body besides the scratch: the argument's buffer and the barrier's counter. -/
def leftOver (c : Dev nD) : sProp 𝕄 := iprop(aAll m c ∗ unscopedSems0 c)

/-- What holds after the body gives back the counters and the scratch buffers. -/
theorem phi1_exit (c : Dev nD) :
    (dats m 0 c).Φ (Fin.last cfg0.N) ⊢ iprop(leftOver m c ∗ Pipeline.ownSems0 osem c ∗ Pipeline.scopedRest cfg0.spec c) := by
  rw [show (dats m 0 c).Φ (Fin.last cfg0.N) = Φ₁ m c from rfl, show cfg0.spec = spec0 from rfl, scopedRest0_eq]
  unfold Φ₁ leftOver
  rw [← sems0_eq]
  iintro ⟨⟨Hu, Ho⟩, Hr, Ha⟩
  isplitl [Ha Hu]
  · isplitl [Ha] <;> iassumption
  isplitl [Ho]; · iexact Ho
  iexact Hr

/-- The pipeline may wait on its own semaphore, whatever the body still owes. -/
theorem waits (c : Dev nD) : (levAts L lv : sProp 𝕄) ⊢ Pipeline.cellsWaits cfgs (dats m) () 0 c :=
  Pipeline.cellsWaits_intro cfgs (dats m) () 0 c fun w s t =>
    mayWait c _ _ (by
      fin_cases w <;> fin_cases s <;> (
        rcases t with ⟨_ | _, ht⟩
        · exact above_O₀ c
        · exact above_zero _))

/-- The argument's buffer and the barrier's counter, read off the final state. -/
theorem left_read (c : Dev nD) (s' : Phys nD τ sig (Elt F)) :
    iprop(leftOver m c ∗ emp ∗ SI s') ⊢ |={Set.univ}=> iprop(⌜s'.mem.mem ((c : Thread nD τ).loc main_arg0) = m ((c : Thread nD τ).loc main_arg0)
      ∧ ∀ sm : SemLoc sig, sm.isScoped .tc = false → s'.mem.sem ((c.tc : Thread nD τ), sm) = 0⌝ ∗ SI s') := by
  unfold leftOver aAll
  iintro ⟨⟨Ha, Hu⟩, -, HSI⟩
  icombine HSI Ha gives %h
  imod (Pipeline.unscopedSems0_read (X := unscopedSems0 c) (c := c) fupd_intro s') $$ [Hu HSI] with ⟨%h', HSI⟩
  · isplitl [Hu] <;> iassumption
  imodintro
  isplitr
  · ipureintro
    exact ⟨funext fun i => h i (Finset.mem_univ i), h'⟩
  iexact HSI

/-! ## The run -/

/-- The result's buffer, written back once and whole. -/
theorem result_eq (c : Dev nD) : (dats m 0 c).arrAt (0 : Fin 1) cfg0.N = outF m c :=
  Dat.arrAt_eq_of_after_last (dats m 0 c) (0 : Fin 1) t₀ (by decide +kernel) (outF m c) (fun _ => rfl) (Memref.isWhole_whole _)

set_option maxRecDepth 8000 in
/-- At the mesh of eight devices, for any float values, from any memory with zero counters: every weakly fair execution of
    the eight kernels terminates, and every final state has each device's result computed, its argument as it was and every
    counter at zero. -/
theorem run_main : θ_run defs (onTc (τ := τ) (main (F := F))) (s₀ m ρ) (fun r =>
    (∀ c : Dev nD, r.2.mem ((c : Thread nD τ).loc main_v1) = outF m c
      ∧ r.2.mem ((c : Thread nD τ).loc main_arg0) = m ((c : Thread nD τ).loc main_arg0))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := leftOver m) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := left_read m)
    (hQ := fun _ h hs => ⟨fun c => ⟨((h c).1 (0 : Fin 1)).trans (result_eq m c), (h c).2.2.1⟩, sem_eq_zero hs fun c => (h c).2.2.2⟩)

end Cert.KernelIdeal.Steps

end
-- ==== Proof.KernelIdeal.Value.lean ====
/-
# What the results are

The blocks the devices hold of the result are blocks of the whole argument cast element by element.
-/
module

public import proofs.«01_k».proof.Proof.KernelIdeal.Geo
public import Idealize.ShloMosaic.Lib.Layout

@[expose] public section

noncomputable section

namespace Cert.KernelIdeal.Steps

open Cert.KernelIdeal Cert.KernelIdeal.Gen
open Idealize.ShloMosaic Idealize.ShloMosaic.TcCoe

variable {F : FTy → Type} [FloatOps F]

variable (m : Mem F)

/-- The half of the argument that the source of a row of the result holds: the half the row is in. -/
theorem cx_src (c : Dev nD) (r : ℕ) (hr : r < 1024) : cx (src c r) = r / 512 := by
  have hc := cx_lt c
  unfold src
  split
  · next h => exact h.symm
  · next h =>
    split
    · rw [cx_xDev]; omega
    · rw [cx_xDev, cx_zDev]; omega

/-- When the devices' arguments are the blocks of the whole array `v`, their results are the blocks of `v` cast element by
    element. -/
theorem outF_block (v : (⟨2, ![1024, 1024]⟩ : Shape).Idx → Elt F .f32)
    (h : ∀ c : Dev nD, m ((c : Thread nD τ).loc main_arg0)
      = Layout.blockN ⟨2, ![512, 1024]⟩ ⟨2, ![1024, 1024]⟩ (Layout.meshBlock [2, 2, 2] ![[0], []] c) v) (c : Dev nD) :
    outF m c = Layout.blockN ⟨2, ![1024, 512]⟩ ⟨2, ![1024, 1024]⟩ (Layout.meshBlock [2, 2, 2] ![[], [0]] c)
      (fun i => cst (v i)) := by
  funext i
  have hi0 : (i 0).val < 1024 := (i 0).isLt
  have hi1 : (i 1).val < 512 := (i 1).isLt
  have hs := cx_src c (i 0).val hi0
  have hc := cx_lt c
  unfold cx at hs hc
  unfold outF aAt aF cx
  rw [h, Layout.blockN_apply, Layout.blockN_apply]
  congr 2
  funext a
  apply Fin.ext
  rw [Layout.TilesN.idx_val, Layout.TilesN.idx_val]
  fin_cases a
  · show (src c (i 0).val).val / 4 % 2 * 1 * 512 + (i 0).val % 512 % 512 = 0 * 1024 + (i 0).val
    omega
  · show 0 * 1024 + (512 * (c.val / 4) + (i 1).val) % 1024 = c.val / 4 % 2 * 1 * 512 + (i 1).val
    omega

end Cert.KernelIdeal.Steps

end
-- ==== Proof.lean ====
/-
# The claims

Each claim about the kernel follows from the run of its eight devices, each claim about the reference from the run of its
one. The results agree because the blocks of a cast array are the casts of its blocks.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Kernel.Launch
public import proofs.«01_k».proof.Proof.Kernel.Value
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.ShloMosaic.TcCoe Idealize.SL.Sem

/-- The kernel terminates, leaves its arguments as they were and every counter at zero. -/
theorem quiescent_kernel : quiescent_Kernel (hKernel := Cert.Kernel.Gen.facts) := fun m g _ =>
  (θ_run _ _ _).mono (fun _ h => ⟨fun c => (h.1 c).2, h.2⟩) (Cert.Kernel.Steps.run_main m g)

/-- So does the kernel at exact floats. -/
theorem quiescent_kernelIdeal : quiescent_KernelIdeal (hKernelIdeal := Cert.KernelIdeal.Gen.facts) := fun m g _ =>
  (θ_run _ _ _).mono (fun _ h => ⟨fun c => (h.1 c).2, h.2⟩) (Cert.KernelIdeal.Steps.run_main m g)

/-- The reference terminates and leaves its argument as it was; it has no counters. -/
theorem quiescent_reference : quiescent_Reference (hReference := Cert.Reference.Gen.facts) := fun m g _ =>
  (θ_run _ _ _).mono (fun _ h => ⟨fun c => (h c).2, sem_eq_zero_of_no_sems rfl _⟩) (Cert.Reference.Value.run m g)

/-- So does the reference at exact floats. -/
theorem quiescent_referenceIdeal : quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

/-- At exact floats the devices' results are the blocks of the reference's result. -/
theorem algebraic : algebraic_KernelIdeal_ReferenceIdeal (hKernelIdeal := Cert.KernelIdeal.Gen.facts)
    (hReferenceIdeal := Cert.ReferenceIdeal.Gen.facts) := fun m g m' g' _ h =>
  ⟨fun i => Cert.KernelIdeal.Steps.cst (F := Ideal) (m' (((0 : Dev Cert.ReferenceIdeal.nD).tc : Thread Cert.ReferenceIdeal.nD Cert.ReferenceIdeal.τ).loc Cert.ReferenceIdeal.main_arg0) i),
    (θ_run _ _ _).mono (fun _ r c => ⟨((r.1 c).1).trans (Cert.KernelIdeal.Steps.outF_block m _ h c), (r.1 c).2⟩) (Cert.KernelIdeal.Steps.run_main m g),
    (θ_run _ _ _).mono (fun _ r => ⟨(r 0).1, (r 0).2⟩) (Cert.ReferenceIdeal.Value.run m' g')⟩

/-- At the machine's floats the devices' results are, bit for bit, the blocks of the reference's result. -/
theorem bitexact : bitexact_Kernel_Reference (hKernel := Cert.Kernel.Gen.facts) (hReference := Cert.Reference.Gen.facts) :=
  fun m g m' g' _ h =>
  ⟨fun i => Cert.Kernel.Steps.cst (F := Bits) (m' (((0 : Dev Cert.Reference.nD).tc : Thread Cert.Reference.nD Cert.Reference.τ).loc Cert.Reference.main_arg0) i),
    (θ_run _ _ _).mono (fun _ r c => ⟨((r.1 c).1).trans (Cert.Kernel.Steps.outF_block m _ h c), (r.1 c).2⟩) (Cert.Kernel.Steps.run_main m g),
    (θ_run _ _ _).mono (fun _ r => ⟨(r 0).1, (r 0).2⟩) (Cert.Reference.Value.run m' g')⟩

/-- Everything claimed. -/
theorem claim : Cert.Claim := ⟨Cert.Kernel.Gen.facts, Cert.KernelIdeal.Gen.facts, Cert.Reference.Gen.facts, Cert.ReferenceIdeal.Gen.facts,
  quiescent_kernel, quiescent_kernelIdeal, quiescent_reference, quiescent_referenceIdeal, trivial, algebraic, bitexact⟩

end Cert.Proof

end
